-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x8x128 : S_.BroadcastsInDim S1x2048x8x128 (![] : Fin 0 → Fin S1x2048x8x128.rank)

variable [Facts]

def fn {F : FTy → Type} [FloatOps F] (main_arg0 : FVec F S1x2048x1024 .f32) (main_arg1 : FVec F S1024x8192 .f32) (main_arg2 : FVec F S1x2048x8x128 .f32) (main_arg3 : FVec F S1x2048x8x128 .f32) (main_arg4 : FVec F S8192x1024 .f32) : IVec S1x2048x1024 1 × IVec S1024x8192 1 × IVec S1x2048x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_scores_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x64x128 : S_.BroadcastsInDim S1x2048x64x128 (![] : Fin 0 → Fin S1x2048x64x128.rank)

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) (main_arg4 : FVec F S8192x1024 .f32) : IVec S1x2048x1024 1 × IVec S1024x8192 1 × IVec S1x2048x64x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x2048x64x128 .f32 := Host.absf main_arg2
  let main_cst_1 : FVec F S_ .f32 := constant S_ .f32 0x7F800000#32
  let main_v7 : FVec F S1x2048x64x128 .f32 := broadcastInDim S1x2048x64x128 ![] bcast_S_S1x2048x64x128 main_cst_1
  let main_v8 : IVec S1x2048x64x128 1 := cmpf .olt main_v6 main_v7
  (main_v2, main_v5, main_v8)
-- ==== Kernel.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S2048x1024 : Shape := ⟨2, ![2048, 1024]⟩
abbrev S1024x1024 : Shape := ⟨2, ![1024, 1024]⟩
abbrev S8x2048x128 : Shape := ⟨3, ![8, 2048, 128]⟩
abbrev S256x1024 : Shape := ⟨2, ![256, 1024]⟩
abbrev S7x256x1024 : Shape := ⟨3, ![7, 256, 1024]⟩
abbrev S19 : Shape := ⟨1, ![19]⟩
abbrev S7 : Shape := ⟨1, ![7]⟩
abbrev S1 : Shape := ⟨1, ![1]⟩
abbrev S_ : Shape := ⟨0, ![]⟩
abbrev S1x2048x128 : Shape := ⟨3, ![1, 2048, 128]⟩
abbrev S2048x128 : Shape := ⟨2, ![2048, 128]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S1x256x1024 : Shape := ⟨3, ![1, 256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x8x128, .f32⟩
  | .hbm, ⟨3, _⟩ => ⟨S1x2048x8x128, .f32⟩
  | .hbm, ⟨4, _⟩ => ⟨S8192x1024, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S1x2048x1024, .f32⟩
  | .local _ .vmem, ⟨0, _⟩ => ⟨S1x2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x2048x128, .bf16⟩
  | .local _ .vmem, ⟨7, _⟩ => ⟨S8x2048x128, .bf16⟩
  | .local _ .vmem, ⟨8, _⟩ => ⟨S256x1024, .bf16⟩
  | .local _ .vmem, ⟨9, _⟩ => ⟨S7x256x1024, .bf16⟩
  | .local _ .vmem, ⟨10, _⟩ => ⟨S7x256x1024, .bf16⟩
  | .local _ .vmem, ⟨11, _⟩ => ⟨S256x1024, .bf16⟩
  | .local _ .vmem, ⟨12, _⟩ => ⟨S7x256x1024, .bf16⟩
  | .local _ .vmem, ⟨13, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_0 : BitVec 32 := 1024#32
  let v4 : BitVec 32 := Scalar.muli v2 c1024_i32_0
  let c0_i32_6 : BitVec 32 := 0#32
  ![v4.toNat, 0]
def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v96 : BitVec 32 := Scalar.addi v2 c1_i32_81
  let c8_i32_82 : BitVec 32 := 8#32
  let v97 : BitVec 32 := Scalar.remsi v96 c8_i32_82
  let c1_i32_84 : BitVec 32 := 1#32
  let v98 : BitVec 32 := Scalar.muli v97 c1_i32_84
  let v99 : BitVec 32 := Scalar.addi c0_i32_85 v98
  v99.toNat
def k0_dev2 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_86 : BitVec 32 := 2#32
  let v100 : BitVec 32 := Scalar.addi v2 c2_i32_86
  let c8_i32_87 : BitVec 32 := 8#32
  let v101 : BitVec 32 := Scalar.remsi v100 c8_i32_87
  let c1_i32_89 : BitVec 32 := 1#32
  let v102 : BitVec 32 := Scalar.muli v101 c1_i32_89
  let v103 : BitVec 32 := Scalar.addi c0_i32_90 v102
  v103.toNat
def k0_dev3 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v104 : BitVec 32 := Scalar.addi v2 c3_i32_91
  let c8_i32_92 : BitVec 32 := 8#32
  let v105 : BitVec 32 := Scalar.remsi v104 c8_i32_92
  let c1_i32_94 : BitVec 32 := 1#32
  let v106 : BitVec 32 := Scalar.muli v105 c1_i32_94
  let v107 : BitVec 32 := Scalar.addi c0_i32_95 v106
  v107.toNat
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_96 : BitVec 32 := 4#32
  let v108 : BitVec 32 := Scalar.addi v2 c4_i32_96
  let c8_i32_97 : BitVec 32 := 8#32
  let v109 : BitVec 32 := Scalar.remsi v108 c8_i32_97
  let c1_i32_99 : BitVec 32 := 1#32
  let v110 : BitVec 32 := Scalar.muli v109 c1_i32_99
  let v111 : BitVec 32 := Scalar.addi c0_i32_100 v110
  v111.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v112 : BitVec 32 := Scalar.addi v2 c5_i32_101
  let c8_i32_102 : BitVec 32 := 8#32
  let v113 : BitVec 32 := Scalar.remsi v112 c8_i32_102
  let c1_i32_104 : BitVec 32 := 1#32
  let v114 : BitVec 32 := Scalar.muli v113 c1_i32_104
  let v115 : BitVec 32 := Scalar.addi c0_i32_105 v114
  v115.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_106 : BitVec 32 := 6#32
  let v116 : BitVec 32 := Scalar.addi v2 c6_i32_106
  let c8_i32_107 : BitVec 32 := 8#32
  let v117 : BitVec 32 := Scalar.remsi v116 c8_i32_107
  let c1_i32_109 : BitVec 32 := 1#32
  let v118 : BitVec 32 := Scalar.muli v117 c1_i32_109
  let v119 : BitVec 32 := Scalar.addi c0_i32_110 v118
  v119.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_111 : BitVec 32 := 7#32
  let v120 : BitVec 32 := Scalar.addi v2 c7_i32_111
  let c8_i32_112 : BitVec 32 := 8#32
  let v121 : BitVec 32 := Scalar.remsi v120 c8_i32_112
  let c1_i32_114 : BitVec 32 := 1#32
  let v122 : BitVec 32 := Scalar.muli v121 c1_i32_114
  let v123 : BitVec 32 := Scalar.addi c0_i32_115 v122
  v123.toNat
def k0_mult1 (d0 : Dev nD) : BitVec 32 :=
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  v143
def k0_off3 (d0 : Dev nD) (c1_i32_126 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let v145 : Index := Scalar.indexCast v140
  let c0_131 : Index := 0#32
  ![v145.toNat, 0]
def k0_off4 (d0 : Dev nD) (c1_i32_126 : BitVec 32) : Fin 3 → Nat :=
  let c0_148 : Index := 0#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v172 : Index := Scalar.indexCast v144
  let c0_149 : Index := 0#32
  ![0, v172.toNat, 0]
def k0_off5 (d0 : Dev nD) (c1_i32_126 : BitVec 32) : Fin 3 → Nat :=
  let c1 : Index := 1#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v206 : Index := Scalar.indexCast v144
  let c0_171 : Index := 0#32
  ![1, v206.toNat, 0]
def k0_off6 (d0 : Dev nD) (c1_i32_126 : BitVec 32) : Fin 3 → Nat :=
  let c2 : Index := 2#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v240 : Index := Scalar.indexCast v144
  let c0_192 : Index := 0#32
  ![2, v240.toNat, 0]
def k0_off7 (d0 : Dev nD) (c1_i32_126 : BitVec 32) : Fin 3 → Nat :=
  let c3 : Index := 3#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v274 : Index := Scalar.indexCast v144
  let c0_213 : Index := 0#32
  ![3, v274.toNat, 0]
def k0_off8 (d0 : Dev nD) (c1_i32_126 : BitVec 32) : Fin 3 → Nat :=
  let c4 : Index := 4#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v308 : Index := Scalar.indexCast v144
  let c0_234 : Index := 0#32
  ![4, v308.toNat, 0]
def k0_off9 (d0 : Dev nD) (c1_i32_126 : BitVec 32) : Fin 3 → Nat :=
  let c5 : Index := 5#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v342 : Index := Scalar.indexCast v144
  let c0_255 : Index := 0#32
  ![5, v342.toNat, 0]
def k0_off10 (d0 : Dev nD) (c1_i32_126 : BitVec 32) : Fin 3 → Nat :=
  let c6 : Index := 6#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v376 : Index := Scalar.indexCast v144
  let c0_276 : Index := 0#32
  ![6, v376.toNat, 0]
def k0_off11 (d0 : Dev nD) (c1_i32_126 : BitVec 32) : Fin 3 → Nat :=
  let c7 : Index := 7#32
  let c1536_i32 : BitVec 32 := 1536#32
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let c128_i32_129 : BitVec 32 := 128#32
  let v141 : BitVec 32 := Scalar.subi v140 c128_i32_129
  let v142 : BitVec 32 := Scalar.maxsi c0_i32_130 v141
  let v143 : BitVec 32 := Scalar.minsi c1536_i32 v142
  let v144 : BitVec 32 := v143
  let v410 : Index := Scalar.indexCast v144
  let c0_297 : Index := 0#32
  ![7, v410.toNat, 0]
def k0_off12 (d0 : Dev nD) (c1_i32_126 : BitVec 32) : Fin 3 → Nat :=
  let c0_317 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : BitVec 32 := Scalar.addi v2 c1_i32_126
  let c8_i32_127 : BitVec 32 := 8#32
  let v139 : BitVec 32 := Scalar.remsi v138 c8_i32_127
  let c256_i32_128 : BitVec 32 := 256#32
  let v140 : BitVec 32 := Scalar.muli v139 c256_i32_128
  let v443 : Index := Scalar.indexCast v140
  let c0_318 : Index := 0#32
  ![0, v443.toNat, 0]
def k0_dev8 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v138 : BitVec 32 := Scalar.addi v2 c1_i32_126
  let c8_i32_127 : BitVec 32 := 8#32
  let v139 : BitVec 32 := Scalar.remsi v138 c8_i32_127
  let c1_i32_326 : BitVec 32 := 1#32
  let v451 : BitVec 32 := Scalar.muli v139 c1_i32_326
  let v452 : BitVec 32 := Scalar.addi c0_i32_327 v451
  v452.toNat
def k0_mult2 (d0 : Dev nD) : BitVec 32 :=
  let c1536_i32_337 : BitVec 32 := 1536#32
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_332 : BitVec 32 := 2#32
  let v461 : BitVec 32 := Scalar.addi v2 c2_i32_332
  let c8_i32_333 : BitVec 32 := 8#32
  let v462 : BitVec 32 := Scalar.remsi v461 c8_i32_333
  let c256_i32_334 : BitVec 32 := 256#32
  let v463 : BitVec 32 := Scalar.muli v462 c256_i32_334
  let c128_i32_335 : BitVec 32 := 128#32
  let v464 : BitVec 32 := Scalar.subi v463 c128_i32_335
  let v465 : BitVec 32 := Scalar.maxsi c0_i32_336 v464
  let v466 : BitVec 32 := Scalar.minsi c1536_i32_337 v465
  v466
def k0_dev9 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_332 : BitVec 32 := 2#32
  let v461 : BitVec 32 := Scalar.addi v2 c2_i32_332
  let c8_i32_333 : BitVec 32 := 8#32
  let v462 : BitVec 32 := Scalar.remsi v461 c8_i32_333
  let c1_i32_445 : BitVec 32 := 1#32
  let v686 : BitVec 32 := Scalar.muli v462 c1_i32_445
  let v687 : BitVec 32 := Scalar.addi c0_i32_446 v686
  v687.toNat
def k0_mult3 (d0 : Dev nD) : BitVec 32 :=
  let c1536_i32_456 : BitVec 32 := 1536#32
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_451 : BitVec 32 := 3#32
  let v696 : BitVec 32 := Scalar.addi v2 c3_i32_451
  let c8_i32_452 : BitVec 32 := 8#32
  let v697 : BitVec 32 := Scalar.remsi v696 c8_i32_452
  let c256_i32_453 : BitVec 32 := 256#32
  let v698 : BitVec 32 := Scalar.muli v697 c256_i32_453
  let c128_i32_454 : BitVec 32 := 128#32
  let v699 : BitVec 32 := Scalar.subi v698 c128_i32_454
  let v700 : BitVec 32 := Scalar.maxsi c0_i32_455 v699
  let v701 : BitVec 32 := Scalar.minsi c1536_i32_456 v700
  v701
def k0_dev10 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_451 : BitVec 32 := 3#32
  let v696 : BitVec 32 := Scalar.addi v2 c3_i32_451
  let c8_i32_452 : BitVec 32 := 8#32
  let v697 : BitVec 32 := Scalar.remsi v696 c8_i32_452
  let c1_i32_564 : BitVec 32 := 1#32
  let v921 : BitVec 32 := Scalar.muli v697 c1_i32_564
  let v922 : BitVec 32 := Scalar.addi c0_i32_565 v921
  v922.toNat
def k0_mult4 (d0 : Dev nD) : BitVec 32 :=
  let c1536_i32_575 : BitVec 32 := 1536#32
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_570 : BitVec 32 := 4#32
  let v931 : BitVec 32 := Scalar.addi v2 c4_i32_570
  let c8_i32_571 : BitVec 32 := 8#32
  let v932 : BitVec 32 := Scalar.remsi v931 c8_i32_571
  let c256_i32_572 : BitVec 32 := 256#32
  let v933 : BitVec 32 := Scalar.muli v932 c256_i32_572
  let c128_i32_573 : BitVec 32 := 128#32
  let v934 : BitVec 32 := Scalar.subi v933 c128_i32_573
  let v935 : BitVec 32 := Scalar.maxsi c0_i32_574 v934
  let v936 : BitVec 32 := Scalar.minsi c1536_i32_575 v935
  v936
def k0_dev11 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_570 : BitVec 32 := 4#32
  let v931 : BitVec 32 := Scalar.addi v2 c4_i32_570
  let c8_i32_571 : BitVec 32 := 8#32
  let v932 : BitVec 32 := Scalar.remsi v931 c8_i32_571
  let c1_i32_683 : BitVec 32 := 1#32
  let v1156 : BitVec 32 := Scalar.muli v932 c1_i32_683
  let v1157 : BitVec 32 := Scalar.addi c0_i32_684 v1156
  v1157.toNat
def k0_mult5 (d0 : Dev nD) : BitVec 32 :=
  let c1536_i32_694 : BitVec 32 := 1536#32
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_689 : BitVec 32 := 5#32
  let v1166 : BitVec 32 := Scalar.addi v2 c5_i32_689
  let c8_i32_690 : BitVec 32 := 8#32
  let v1167 : BitVec 32 := Scalar.remsi v1166 c8_i32_690
  let c256_i32_691 : BitVec 32 := 256#32
  let v1168 : BitVec 32 := Scalar.muli v1167 c256_i32_691
  let c128_i32_692 : BitVec 32 := 128#32
  let v1169 : BitVec 32 := Scalar.subi v1168 c128_i32_692
  let v1170 : BitVec 32 := Scalar.maxsi c0_i32_693 v1169
  let v1171 : BitVec 32 := Scalar.minsi c1536_i32_694 v1170
  v1171
def k0_dev12 (d0 : Dev nD) : Nat :=
  let c0_i32_803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_689 : BitVec 32 := 5#32
  let v1166 : BitVec 32 := Scalar.addi v2 c5_i32_689
  let c8_i32_690 : BitVec 32 := 8#32
  let v1167 : BitVec 32 := Scalar.remsi v1166 c8_i32_690
  let c1_i32_802 : BitVec 32 := 1#32
  let v1391 : BitVec 32 := Scalar.muli v1167 c1_i32_802
  let v1392 : BitVec 32 := Scalar.addi c0_i32_803 v1391
  v1392.toNat
def k0_mult6 (d0 : Dev nD) : BitVec 32 :=
  let c1536_i32_813 : BitVec 32 := 1536#32
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_808 : BitVec 32 := 6#32
  let v1401 : BitVec 32 := Scalar.addi v2 c6_i32_808
  let c8_i32_809 : BitVec 32 := 8#32
  let v1402 : BitVec 32 := Scalar.remsi v1401 c8_i32_809
  let c256_i32_810 : BitVec 32 := 256#32
  let v1403 : BitVec 32 := Scalar.muli v1402 c256_i32_810
  let c128_i32_811 : BitVec 32 := 128#32
  let v1404 : BitVec 32 := Scalar.subi v1403 c128_i32_811
  let v1405 : BitVec 32 := Scalar.maxsi c0_i32_812 v1404
  let v1406 : BitVec 32 := Scalar.minsi c1536_i32_813 v1405
  v1406
def k0_dev13 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_808 : BitVec 32 := 6#32
  let v1401 : BitVec 32 := Scalar.addi v2 c6_i32_808
  let c8_i32_809 : BitVec 32 := 8#32
  let v1402 : BitVec 32 := Scalar.remsi v1401 c8_i32_809
  let c1_i32_921 : BitVec 32 := 1#32
  let v1626 : BitVec 32 := Scalar.muli v1402 c1_i32_921
  let v1627 : BitVec 32 := Scalar.addi c0_i32_922 v1626
  v1627.toNat
def k0_mult7 (d0 : Dev nD) : BitVec 32 :=
  let c1536_i32_932 : BitVec 32 := 1536#32
  let c0_i32_931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_927 : BitVec 32 := 7#32
  let v1636 : BitVec 32 := Scalar.addi v2 c7_i32_927
  let c8_i32_928 : BitVec 32 := 8#32
  let v1637 : BitVec 32 := Scalar.remsi v1636 c8_i32_928
  let c256_i32_929 : BitVec 32 := 256#32
  let v1638 : BitVec 32 := Scalar.muli v1637 c256_i32_929
  let c128_i32_930 : BitVec 32 := 128#32
  let v1639 : BitVec 32 := Scalar.subi v1638 c128_i32_930
  let v1640 : BitVec 32 := Scalar.maxsi c0_i32_931 v1639
  let v1641 : BitVec 32 := Scalar.minsi c1536_i32_932 v1640
  v1641
def k0_dev14 (d0 : Dev nD) : Nat :=
  let c0_i32_1041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_927 : BitVec 32 := 7#32
  let v1636 : BitVec 32 := Scalar.addi v2 c7_i32_927
  let c8_i32_928 : BitVec 32 := 8#32
  let v1637 : BitVec 32 := Scalar.remsi v1636 c8_i32_928
  let c1_i32_1040 : BitVec 32 := 1#32
  let v1861 : BitVec 32 := Scalar.muli v1637 c1_i32_1040
  let v1862 : BitVec 32 := Scalar.addi c0_i32_1041 v1861
  v1862.toNat
def k0_mult8 (d0 : Dev nD) : BitVec 32 :=
  let c1536_i32_1051 : BitVec 32 := 1536#32
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1046 : BitVec 32 := 0#32
  let v1871 : BitVec 32 := Scalar.addi v2 c0_i32_1046
  let c8_i32_1047 : BitVec 32 := 8#32
  let v1872 : BitVec 32 := Scalar.remsi v1871 c8_i32_1047
  let c256_i32_1048 : BitVec 32 := 256#32
  let v1873 : BitVec 32 := Scalar.muli v1872 c256_i32_1048
  let c128_i32_1049 : BitVec 32 := 128#32
  let v1874 : BitVec 32 := Scalar.subi v1873 c128_i32_1049
  let v1875 : BitVec 32 := Scalar.maxsi c0_i32_1050 v1874
  let v1876 : BitVec 32 := Scalar.minsi c1536_i32_1051 v1875
  v1876
def k0_off13 (d0 : Dev nD) : Fin 3 → Nat :=
  let c0_1153 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1152 : BitVec 32 := 256#32
  let v2092 : BitVec 32 := Scalar.muli v2 c256_i32_1152
  let v2093 : Index := Scalar.indexCast v2092
  let c0_1154 : Index := 0#32
  ![0, v2093.toNat, 0]
def k0_dev15 (d0 : Dev nD) : Nat :=
  let c0_i32_1291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1285 : BitVec 32 := 1#32
  let v2222 : BitVec 32 := Scalar.addi v2 c1_i32_1285
  let c8_i32_1286 : BitVec 32 := 8#32
  let v2223 : BitVec 32 := Scalar.remsi v2222 c8_i32_1286
  let c1_i32_1290 : BitVec 32 := 1#32
  let v2224 : BitVec 32 := Scalar.muli v2223 c1_i32_1290
  let v2225 : BitVec 32 := Scalar.addi c0_i32_1291 v2224
  v2225.toNat
def k0_dev16 (d0 : Dev nD) : Nat :=
  let c0_i32_1300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1294 : BitVec 32 := 2#32
  let v2232 : BitVec 32 := Scalar.addi v2 c2_i32_1294
  let c8_i32_1295 : BitVec 32 := 8#32
  let v2233 : BitVec 32 := Scalar.remsi v2232 c8_i32_1295
  let c1_i32_1299 : BitVec 32 := 1#32
  let v2234 : BitVec 32 := Scalar.muli v2233 c1_i32_1299
  let v2235 : BitVec 32 := Scalar.addi c0_i32_1300 v2234
  v2235.toNat
def k0_dev17 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1303 : BitVec 32 := 3#32
  let v2242 : BitVec 32 := Scalar.addi v2 c3_i32_1303
  let c8_i32_1304 : BitVec 32 := 8#32
  let v2243 : BitVec 32 := Scalar.remsi v2242 c8_i32_1304
  let c1_i32_1308 : BitVec 32 := 1#32
  let v2244 : BitVec 32 := Scalar.muli v2243 c1_i32_1308
  let v2245 : BitVec 32 := Scalar.addi c0_i32_1309 v2244
  v2245.toNat
def k0_dev18 (d0 : Dev nD) : Nat :=
  let c0_i32_1318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1312 : BitVec 32 := 4#32
  let v2252 : BitVec 32 := Scalar.addi v2 c4_i32_1312
  let c8_i32_1313 : BitVec 32 := 8#32
  let v2253 : BitVec 32 := Scalar.remsi v2252 c8_i32_1313
  let c1_i32_1317 : BitVec 32 := 1#32
  let v2254 : BitVec 32 := Scalar.muli v2253 c1_i32_1317
  let v2255 : BitVec 32 := Scalar.addi c0_i32_1318 v2254
  v2255.toNat
def k0_dev19 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1321 : BitVec 32 := 5#32
  let v2262 : BitVec 32 := Scalar.addi v2 c5_i32_1321
  let c8_i32_1322 : BitVec 32 := 8#32
  let v2263 : BitVec 32 := Scalar.remsi v2262 c8_i32_1322
  let c1_i32_1326 : BitVec 32 := 1#32
  let v2264 : BitVec 32 := Scalar.muli v2263 c1_i32_1326
  let v2265 : BitVec 32 := Scalar.addi c0_i32_1327 v2264
  v2265.toNat
def k0_dev20 (d0 : Dev nD) : Nat :=
  let c0_i32_1336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1330 : BitVec 32 := 6#32
  let v2272 : BitVec 32 := Scalar.addi v2 c6_i32_1330
  let c8_i32_1331 : BitVec 32 := 8#32
  let v2273 : BitVec 32 := Scalar.remsi v2272 c8_i32_1331
  let c1_i32_1335 : BitVec 32 := 1#32
  let v2274 : BitVec 32 := Scalar.muli v2273 c1_i32_1335
  let v2275 : BitVec 32 := Scalar.addi c0_i32_1336 v2274
  v2275.toNat
def k0_dev21 (d0 : Dev nD) : Nat :=
  let c0_i32_1345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1339 : BitVec 32 := 7#32
  let v2282 : BitVec 32 := Scalar.addi v2 c7_i32_1339
  let c8_i32_1340 : BitVec 32 := 8#32
  let v2283 : BitVec 32 := Scalar.remsi v2282 c8_i32_1340
  let c1_i32_1344 : BitVec 32 := 1#32
  let v2284 : BitVec 32 := Scalar.muli v2283 c1_i32_1344
  let v2285 : BitVec 32 := Scalar.addi c0_i32_1345 v2284
  v2285.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x64x128, .f32⟩
  | .hbm, ⟨3, _⟩ => ⟨S1x2048x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S1x64x2048x2048, .f32⟩
  | .hbm, ⟨19, _⟩ => ⟨S_, .f32⟩
  | .hbm, ⟨20, _⟩ => ⟨S1x64x2048x2048, .f32⟩
  | .hbm, ⟨21, _⟩ => ⟨S1x64x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S1x64x2048x2048, .i1⟩
  | .hbm, ⟨26, _⟩ => ⟨S1x64x2048x2048, .f32⟩
  | .hbm, ⟨27, _⟩ => ⟨S1x64x2048x2048, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x2048, .f32⟩
  | .hbm, ⟨32, _⟩ => ⟨S1x64x2048x2048, .f32⟩
  | .hbm, ⟨33, _⟩ => ⟨S1x64x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x64x2048, .f32⟩
  | .hbm, ⟨39, _⟩ => ⟨S1x64x2048x1, .f32⟩
  | .hbm, ⟨40, _⟩ => ⟨S_, .f32⟩
  | .hbm, ⟨41, _⟩ => ⟨S_, .f32⟩
  | .hbm, ⟨42, _⟩ => ⟨S1x64x2048x1, .i1⟩
  | .hbm, ⟨43, _⟩ => ⟨S1x64x2048x1, .f32⟩
  | .hbm, ⟨44, _⟩ => ⟨S1x64x2048x1, .f32⟩
  | .hbm, ⟨45, _⟩ => ⟨S1x64x2048x2048, .f32⟩
  | .hbm, ⟨46, _⟩ => ⟨S1x64x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x64x2048x2048, .i1⟩
  | .hbm, ⟨51, _⟩ => ⟨S1x64x2048x2048, .f32⟩
  | .hbm, ⟨52, _⟩ => ⟨S1x64x2048x2048, .f32⟩
  | .hbm, ⟨53, _⟩ => ⟨S1x64x128x2048, .f32⟩
  | .hbm, ⟨54, _⟩ => ⟨S1x2048x64x128, .f32⟩
  | .hbm, ⟨55, _⟩ => ⟨S1x2048x8192, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Swa.Body.lean ====
/-
  The kernel's body as a program of repeated steps.

  The printed body is one straight line of about 450 memory operations: eight blocks of query rows, in each block
  eight heads, then seven partial sums received, seven results sent and seven results received. Here the same operations
  are written once per KIND of step (`headStep`, `blockHeads`, `sendPartial`, …), each over the block `j`, the head `h` or
  the slot `s` it works on, and `body_eq` says that the printed body is this program.
-/
module

public import proofs.«01_k».proof.Proof.Gen.KernelIdeal.Skeleton
public import proofs.«01_k».proof.Proof.Gen.KernelIdeal.Points

@[expose] public section

noncomputable section

namespace Cert.KernelIdeal.Swa

open Idealize.ShloMosaic Idealize.SL.Sem Cert.KernelIdeal.Gen

variable {F : FTy → Type} [FloatOps F] [Named F]

/-- A program of the kernel's effects. -/
abbrev P (F : FTy → Type) (α : Type) := Prog (TpuEff nD τ sig (Elt F) Λ₀ .tc) α

/-! ## The buffers -/

abbrev xH : Memref sig .tc .hbm S1x2048x1024 .f32 := Memref.whole main_arg0
abbrev wqH : Memref sig .tc .hbm S1024x8192 .f32 := Memref.whole main_arg1
abbrev kH : Memref sig .tc .hbm S2048x1024 .bf16 := Memref.whole main_v2
abbrev vH : Memref sig .tc .hbm S2048x1024 .bf16 := Memref.whole main_v4
abbrev woH : Memref sig .tc .hbm S8192x1024 .f32 := Memref.whole main_arg4
abbrev outM : Memref sig .tc .vmem S1x2048x1024 .f32 := Memref.whole cc0_stg0_0
abbrev xM : Memref sig .tc .vmem S2048x1024 .f32 := Memref.whole cc0_scratch0
abbrev wqM : Memref sig .tc .vmem S1024x1024 .f32 := Memref.whole cc0_scratch1
abbrev woM : Memref sig .tc .vmem S1024x1024 .f32 := Memref.whole cc0_scratch2
abbrev wqbM : Memref sig .tc .vmem S1024x1024 .bf16 := Memref.whole cc0_scratch3
abbrev wobM : Memref sig .tc .vmem S1024x1024 .bf16 := Memref.whole cc0_scratch4
abbrev kM : Memref sig .tc .vmem S8x2048x128 .bf16 := Memref.whole cc0_scratch5
abbrev vM : Memref sig .tc .vmem S8x2048x128 .bf16 := Memref.whole cc0_scratch6
abbrev ctxM : Memref sig .tc .vmem S256x1024 .bf16 := Memref.whole cc0_scratch7
abbrev sendM : Memref sig .tc .vmem S7x256x1024 .bf16 := Memref.whole cc0_scratch8
abbrev rsM : Memref sig .tc .vmem S7x256x1024 .bf16 := Memref.whole cc0_scratch9
abbrev redM : Memref sig .tc .vmem S256x1024 .bf16 := Memref.whole cc0_scratch10
abbrev agM : Memref sig .tc .vmem S7x256x1024 .bf16 := Memref.whole cc0_scratch11
abbrev accM : Memref sig .tc .vmem S256x1024 .f32 := Memref.whole cc0_scratch12

/-! ## The rectangles -/

theorem slab_inb (h : Fin 8) : ∀ a, (![h.val, 0, 0] : Fin 3 → Nat) a + S1x2048x128.size a ≤ S8x2048x128.size a := by
  revert h; decide
theorem slab_words (h : Fin 8) : (Rect.unit (s := S8x2048x128) ![h.val, 0, 0] S1x2048x128.size (slab_inb h)).WholeWords (EltTy.packing .bf16) := by
  revert h; decide
theorem hcol_inb (h : Fin 8) : ∀ a, (![0, 128 * h.val] : Fin 2 → Nat) a + S2048x128.size a ≤ S2048x1024.size a := by
  revert h; decide
theorem hcol_words (h : Fin 8) : (Rect.unit (s := S2048x1024) ![0, 128 * h.val] S2048x128.size (hcol_inb h)).WholeWords (EltTy.packing .bf16) := by
  revert h; decide
theorem ctx_inb (h : Fin 8) : ∀ a, (![0, 128 * h.val] : Fin 2 → Nat) a + S256x128.size a ≤ S256x1024.size a := by
  revert h; decide
theorem ctx_packed (h : Fin 8) : (Rect.unit (s := S256x1024) ![0, 128 * h.val] S256x128.size (ctx_inb h)).PackedRows (EltTy.packing .bf16) := by
  revert h; decide
theorem ctx_slices (h : Fin 8) : S256x1024.Slices ![0, 128 * h.val] S256x128 := by
  revert h; decide
theorem slot_inb (s : Fin 7) : ∀ a, (![s.val, 0, 0] : Fin 3 → Nat) a + S1x256x1024.size a ≤ S7x256x1024.size a := by
  revert s; decide
theorem slot_words (s : Fin 7) : (Rect.unit (s := S7x256x1024) ![s.val, 0, 0] S1x256x1024.size (slot_inb s)).WholeWords (EltTy.packing .bf16) := by
  revert s; decide
theorem slot_packed (s : Fin 7) : (Rect.unit (s := S7x256x1024) ![s.val, 0, 0] S1x256x1024.size (slot_inb s)).PackedRows (EltTy.packing .bf16) := by
  revert s; decide

/-- Slab `h` of a head-major buffer: one head's rows. -/
abbrev slabRect (h : Fin 8) : Rect S8x2048x128 := Rect.unit (s := S8x2048x128) ![h.val, 0, 0] S1x2048x128.size (slab_inb h)
/-- Columns of head `h` of a [2048, 1024] array. -/
abbrev hcolRect (h : Fin 8) : Rect S2048x1024 := Rect.unit (s := S2048x1024) ![0, 128 * h.val] S2048x128.size (hcol_inb h)
/-- Columns of head `h` of the context block. -/
abbrev ctxRect (h : Fin 8) : Rect S256x1024 := Rect.unit (s := S256x1024) ![0, 128 * h.val] S256x128.size (ctx_inb h)
/-- Slot `s` of a seven-slot buffer. -/
abbrev slotRect (s : Fin 7) : Rect S7x256x1024 := Rect.unit (s := S7x256x1024) ![s.val, 0, 0] S1x256x1024.size (slot_inb s)
/-- The rows of `x` in block `(me + j) % 8`. -/
abbrev xRect (c : Dev nD) (j : Fin 8) : Rect S2048x1024 :=
  Rect.unit (s := S2048x1024) (k0_off3 c (BitVec.ofNat 32 j.val)) S256x1024.size (k0_off3_inb c j)
/-- The output rows of block `(me + j) % 8`. -/
abbrev outRect (c : Dev nD) (j : Fin 8) : Rect S1x2048x1024 :=
  Rect.unit (s := S1x2048x1024) (k0_off12 c (BitVec.ofNat 32 j.val)) S1x256x1024.size (k0_off12_inb c j)
/-- The output rows of block `me`, as the reduction spells them. -/
abbrev outRectMe (c : Dev nD) : Rect S1x2048x1024 :=
  Rect.unit (s := S1x2048x1024) (k0_off13 c) S1x256x1024.size (k0_off13_inb c)

/-- Where block `(me + j) % 8`'s key window starts, in head `h`'s slab. -/
abbrev kvOff (h : Fin 8) (c : Dev nD) (j : BitVec 32) : Fin 3 → Nat :=
  match h with
  | 0 => k0_off4 c j | 1 => k0_off5 c j | 2 => k0_off6 c j | 3 => k0_off7 c j
  | 4 => k0_off8 c j | 5 => k0_off9 c j | 6 => k0_off10 c j | 7 => k0_off11 c j

theorem kvOff_inb (h : Fin 8) (c : Dev nD) (j : Fin 8) :
    ∀ a, kvOff h c (BitVec.ofNat 32 j.val) a + S1x512x128.size a ≤ S8x2048x128.size a :=
  match h with
  | 0 => k0_off4_inb c j | 1 => k0_off5_inb c j | 2 => k0_off6_inb c j | 3 => k0_off7_inb c j
  | 4 => k0_off8_inb c j | 5 => k0_off9_inb c j | 6 => k0_off10_inb c j | 7 => k0_off11_inb c j

/-- The 512 keys (or values) of head `h` that block `(me + j) % 8` attends to. -/
abbrev kvRect (c : Dev nD) (j h : Fin 8) : Rect S8x2048x128 :=
  Rect.unit (s := S8x2048x128) (kvOff h c (BitVec.ofNat 32 j.val)) S1x512x128.size (kvOff_inb h c j)

abbrev fullW : Rect S1024x1024 := Rect.unit (s := S1024x1024) ![0, 0] S1024x1024.size inb_S1024x1024_S1024x1024_0_0
abbrev fullB : Rect S256x1024 := Rect.unit (s := S256x1024) ![0, 0] S256x1024.size inb_S256x1024_S256x1024_0_0

/-! ## Views -/

/-- `x` as the [2048, 1024] array its transfer reads. -/
abbrev xSrc : Memref sig .tc .hbm S2048x1024 .f32 :=
  (xH.slice (Rect.unit (s := S1x2048x1024) ![0, 0, 0] S1x2048x1024.size inb_S1x2048x1024_S1x2048x1024_0_0_0) (fun _ => rfl)).squeeze S2048x1024 squeezes_S1x2048x1024_S2048x1024
/-- The device's columns of `Wq`. -/
abbrev wqSrc (c : Dev nD) : Memref sig .tc .hbm S1024x1024 .f32 :=
  wqH.slice (Rect.unit (s := S1024x8192) (k0_off1 c) S1024x1024.size (k0_off1_inb c)) (fun _ => rfl)
/-- The device's rows of `Wo`. -/
abbrev woSrc (c : Dev nD) : Memref sig .tc .hbm S1024x1024 .f32 :=
  woH.slice (Rect.unit (s := S8192x1024) (k0_off2 c) S1024x1024.size (k0_off2_inb c)) (fun _ => rfl)
/-- Head `h`'s columns of the keys or the values in HBM. -/
abbrev headSrc (m : Memref sig .tc .hbm S2048x1024 .bf16) (h : Fin 8) : Memref sig .tc .hbm S2048x128 .bf16 :=
  m.slice (hcolRect h) (fun _ => rfl)
/-- Head `h`'s slab of the keys or the values in VMEM. -/
abbrev headDst (m : Memref sig .tc .vmem S8x2048x128 .bf16) (h : Fin 8) : Memref sig .tc .vmem S2048x128 .bf16 :=
  (m.slice (slabRect h) (fun _ => rfl)).squeeze S2048x128 squeezes_S1x2048x128_S2048x128
/-- Slot `s` of a seven-slot buffer, as a [256, 1024] array. -/
abbrev slotM (m : Memref sig .tc .vmem S7x256x1024 .bf16) (s : Fin 7) : Memref sig .tc .vmem S256x1024 .bf16 :=
  (m.slice (slotRect s) (fun _ => rfl)).squeeze S256x1024 squeezes_S1x256x1024_S256x1024

/-! ## Semaphores and peers -/

theorem load_sem_inb (i : Fin 19) : ∀ a, (![i.val] : Fin 1 → Nat) a + S1.size a ≤ S19.size a := by revert i; decide
theorem slot_sem_inb (s : Fin 7) : ∀ a, (![s.val] : Fin 1 → Nat) a + S1.size a ≤ S7.size a := by revert s; decide

/-- The semaphore of the `i`-th load. -/
abbrev loadSem (i : Fin 19) : DmaSem sig :=
  ((cc0_scratch13.slice (Rect.unit (s := S19) ![i.val] S1.size (load_sem_inb i))).squeeze S_ squeezes_S1_S_).sem
/-- The semaphore of slot `s` in an array of seven. -/
abbrev slotSem (a : DmaSems sig S7) (s : Fin 7) : DmaSem sig :=
  ((a.slice (Rect.unit (s := S7) ![s.val] S1.size (slot_sem_inb s))).squeeze S_ squeezes_S1_S_).sem

abbrev barSem : Sem sig := (SemArray.scalar (sig.barrier 0 rfl) : Sems sig S_).sem

/-- The device `s + 1` places after `c`, as the barrier's signals, the partial sums' copies and the results' copies each
    compute it. -/
abbrev barDev (c : Dev nD) (s : Fin 7) : Dev nD :=
  match s with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩
abbrev rsDev (c : Dev nD) (s : Fin 7) : Dev nD :=
  match s with
  | 0 => ⟨k0_dev8 c, k0_dev8_lt c⟩ | 1 => ⟨k0_dev9 c, k0_dev9_lt c⟩ | 2 => ⟨k0_dev10 c, k0_dev10_lt c⟩
  | 3 => ⟨k0_dev11 c, k0_dev11_lt c⟩ | 4 => ⟨k0_dev12 c, k0_dev12_lt c⟩ | 5 => ⟨k0_dev13 c, k0_dev13_lt c⟩
  | 6 => ⟨k0_dev14 c, k0_dev14_lt c⟩
abbrev agDev (c : Dev nD) (s : Fin 7) : Dev nD :=
  match s with
  | 0 => ⟨k0_dev15 c, k0_dev15_lt c⟩ | 1 => ⟨k0_dev16 c, k0_dev16_lt c⟩ | 2 => ⟨k0_dev17 c, k0_dev17_lt c⟩
  | 3 => ⟨k0_dev18 c, k0_dev18_lt c⟩ | 4 => ⟨k0_dev19 c, k0_dev19_lt c⟩ | 5 => ⟨k0_dev20 c, k0_dev20_lt c⟩
  | 6 => ⟨k0_dev21 c, k0_dev21_lt c⟩

/-! ## The values computed -/

/-- The device's index, as the body computes it. -/
abbrev meWord (c : Dev nD) : BitVec 32 := Scalar.remsi (Scalar.divsi (Dev.word c) 1#32) 8#32

/-- Which of a block's 512 window keys each of its 256 rows may see: `|row - key| ≤ 128`. -/
def maskV (c : Dev nD) (j : Fin 8) : IVec S256x512 1 :=
  have q0 : BitVec 32 := Scalar.muli (Scalar.remsi (Scalar.addi (meWord c) (BitVec.ofNat 32 j.val)) 8#32) 256#32
  have kw : BitVec 32 := Scalar.minsi 1536#32 (Scalar.maxsi 0#32 (Scalar.subi q0 128#32))
  cmpi .sle
    (absi (subi (addi (iota .tc S256x512 32 [0] iota_S256x512_d0_w32) (broadcast S256x512 q0))
      (addi (iota .tc S256x512 32 [1] iota_S256x512_d1_w32) (broadcast S256x512 kw))))
    (broadcast S256x512 128#32)

/-- The exponentials of a block's scores in one head. -/
def expV (h : Fin 8) (q : FVec F S256x1024 .f32) (msk : IVec S256x512 1) (ks : Vec F S1x512x128 .bf16) : FVec F S256x512 .f32 :=
  exp (select msk
    (matmul dot_S256x128_S512x128_S256x512_1_1_0_0_n_n none
      (truncf .bf16 (extractStridedSlice S256x128 ![0, 128 * h.val] q (ctx_slices h)) bitsLt_bf16_f32)
      (shapeCast S512x128 ks shapeCasts_S1x512x128_S512x128) (constant S256x512 .f32 0x00000000#32))
    (broadcast S256x512 (Named.named κ "mask" 0xCE6E6B28#32 : F .f32)))

/-- One head's context rows of a block. -/
def headV (h : Fin 8) (q : FVec F S256x1024 .f32) (msk : IVec S256x512 1) (ks vs : Vec F S1x512x128 .bf16) : FVec F S256x128 .bf16 :=
  shapeCast S256x128
    (truncf .bf16
      (mulf
        (matmul dot_S256x512_S512x128_S256x128_1_0_0_1_n_n none (truncf .bf16 (expV h q msk ks) bitsLt_bf16_f32)
          (shapeCast S512x128 vs shapeCasts_S1x512x128_S512x128) (constant S256x128 .f32 0x00000000#32))
        (broadcastTo S256x128
          (divf (broadcast S256x1 (Scalar.ofBits .f32 0x3F800000#32))
            (shapeCast S256x1 (multiReduction .add [1] S256 (expV h q msk ks) 0x00000000#32 reduces_S256x512_S256 (.inl rfl) rfl) shapeCasts_S256_S256x1))
          broadcasts_S256x1_S256x128))
      bitsLt_bf16_f32)
    shapeCasts_S256x128_S256x128

/-! ## The steps -/

/-- Run `f` at each of seven slots. -/
abbrev each7 (f : Fin 7 → P F PUnit) : P F PUnit := do f 0; f 1; f 2; f 3; f 4; f 5; f 6
/-- Run `f` at each of eight heads. -/
abbrev each8 (f : Fin 8 → P F PUnit) : P F PUnit := do f 0; f 1; f 2; f 3; f 4; f 5; f 6; f 7

/-- The transfer of head `h`'s keys (or values) into its slab, on load semaphore `i`. -/
def startHead (src : Memref sig .tc .hbm S2048x1024 .bf16) (hs : src.IsWhole) (dst : Memref sig .tc .vmem S8x2048x128 .bf16) (hd : dst.IsWhole)
    (h : Fin 8) (i : Fin 19) : P F PUnit :=
  Prog.lift (.enqueueDma (headSrc src h) (.here (headDst dst h)) (.dma (loadSem i)) (hs.wordExact_slice rfl _ (hcol_words h))
    ((hd.wordExact_slice rfl _ (slab_words h)).reshape _ _) ⟨Or.inl rfl, trivial⟩)

def waitHead (src : Memref sig .tc .hbm S2048x1024 .bf16) (hs : src.IsWhole) (dst : Memref sig .tc .vmem S8x2048x128 .bf16) (hd : dst.IsWhole)
    (h : Fin 8) (i : Fin 19) : P F PUnit :=
  Prog.lift (.waitDma2 (loadSem i) (headSrc src h) (headDst dst h) (hs.wordExact_slice rfl _ (hcol_words h))
    ((hd.wordExact_slice rfl _ (slab_words h)).reshape _ _))

/-- The load semaphores of head `h`'s keys and values. -/
abbrev kIx (h : Fin 8) : Fin 19 := ⟨3 + 2 * h.val, by omega⟩
abbrev vIx (h : Fin 8) : Fin 19 := ⟨4 + 2 * h.val, by omega⟩

/-- All nineteen loads started. -/
def startLoads (c : Dev nD) : P F PUnit := do
  Prog.lift (.enqueueDma xSrc (.here xM) (.dma (loadSem 0)) ((View.wordExact_bits rfl).reshape _ _) (Memref.isWhole_whole _).wordExact ⟨Or.inl rfl, trivial⟩)
  Prog.lift (.enqueueDma (wqSrc c) (.here wqM) (.dma (loadSem 1)) (View.wordExact_bits rfl) (Memref.isWhole_whole _).wordExact ⟨Or.inl rfl, trivial⟩)
  Prog.lift (.enqueueDma (woSrc c) (.here woM) (.dma (loadSem 2)) (View.wordExact_bits rfl) (Memref.isWhole_whole _).wordExact ⟨Or.inl rfl, trivial⟩)
  each8 fun h => do
    startHead kH (Memref.isWhole_whole _) kM (Memref.isWhole_whole _) h (kIx h)
    startHead vH (Memref.isWhole_whole _) vM (Memref.isWhole_whole _) h (vIx h)

/-- Every peer told that this device has begun, and every peer waited for. -/
def barrier (c : Dev nD) : P F PUnit := do
  each7 fun s => semSignalWord (barDev c s) barSem 1#32
  semWaitWord barSem 7#32

/-- `x` and `Wq` landed, and `Wq` scaled. -/
def scaleWq (c : Dev nD) : P F PUnit := do
  Prog.lift (.waitDma2 (loadSem 0) xSrc xM ((View.wordExact_bits rfl).reshape _ _) (Memref.isWhole_whole _).wordExact)
  Prog.lift (.waitDma2 (loadSem 1) (wqSrc c) wqM (View.wordExact_bits rfl) (Memref.isWhole_whole _).wordExact)
  let w : Vec F S1024x1024 .f32 ← Prog.lift (.load wqM fullW.toLoadRect (View.loadsAt_vmem h_S1024x1024))
  let _ : Vec F S1024x1024 .bf16 ← Prog.lift (.load wqbM fullW.toLoadRect (View.loadsAt_vmem h_S1024x1024))
  Prog.lift (.store wqbM fullW (k0_pay1 w) Finset.univ
    (View.stores_vmem h_S1024x1024 ((Memref.isWhole_whole _).storeExact_slice rfl _ packedbf16_S1024x1024_S1024x1024_0_0) (fun _ => rfl)) (.inl rfl))

/-- `Wo` landed and rounded. -/
def roundWo (c : Dev nD) : P F PUnit := do
  Prog.lift (.waitDma2 (loadSem 2) (woSrc c) woM (View.wordExact_bits rfl) (Memref.isWhole_whole _).wordExact)
  let w : Vec F S1024x1024 .f32 ← Prog.lift (.load woM fullW.toLoadRect (View.loadsAt_vmem h_S1024x1024))
  let _ : Vec F S1024x1024 .bf16 ← Prog.lift (.load wobM fullW.toLoadRect (View.loadsAt_vmem h_S1024x1024))
  Prog.lift (.store wobM fullW (k0_pay12 w) Finset.univ
    (View.stores_vmem h_S1024x1024 ((Memref.isWhole_whole _).storeExact_slice rfl _ packedbf16_S1024x1024_S1024x1024_0_0) (fun _ => rfl)) (.inl rfl))

/-- The queries of block `(me + j) % 8`. -/
def queries (c : Dev nD) (j : Fin 8) : P F (FVec F S256x1024 .f32) := do
  let xb : Vec F S256x1024 .f32 ← Prog.lift (.load xM (xRect c j).toLoadRect (View.loadsAt_vmem h_S256x1024))
  let w : Vec F S1024x1024 .bf16 ← Prog.lift (.load wqbM fullW.toLoadRect (View.loadsAt_vmem h_S1024x1024))
  pure (k0_pay2 xb w)

/-- One head of one block: its context written into the head's columns. -/
def headStep (c : Dev nD) (j : Fin 8) (q : FVec F S256x1024 .f32) (h : Fin 8) : P F PUnit := do
  let ks : Vec F S1x512x128 .bf16 ← Prog.lift (.load kM (kvRect c j h).toLoadRect (View.loadsAt_vmem h_S1x512x128))
  let vs : Vec F S1x512x128 .bf16 ← Prog.lift (.load vM (kvRect c j h).toLoadRect (View.loadsAt_vmem h_S1x512x128))
  let _ : Vec F S256x128 .bf16 ← Prog.lift (.load ctxM (ctxRect h).toLoadRect (View.loadsAt_vmem h_S256x128))
  Prog.lift (.store ctxM (ctxRect h) (headV h q (maskV c j) ks vs) Finset.univ
    (View.stores_vmem h_S256x128 ((Memref.isWhole_whole _).storeExact_slice rfl _ (ctx_packed h)) (fun _ => rfl)) (.inl rfl))

/-- One head of the first block, its keys and values waited for before. -/
def headStepFirst (c : Dev nD) (q : FVec F S256x1024 .f32) (h : Fin 8) : P F PUnit := do
  waitHead kH (Memref.isWhole_whole _) kM (Memref.isWhole_whole _) h (kIx h)
  waitHead vH (Memref.isWhole_whole _) vM (Memref.isWhole_whole _) h (vIx h)
  headStep c 1 q h

/-- The block's contribution to the output, from its context: written into the output rows and returned. -/
def project (c : Dev nD) (j : Fin 8) : P F (FVec F S256x1024 .f32) := do
  let cv : Vec F S256x1024 .bf16 ← Prog.lift (.load ctxM fullB.toLoadRect (View.loadsAt_vmem h_S256x1024))
  let w : Vec F S1024x1024 .bf16 ← Prog.lift (.load wobM fullW.toLoadRect (View.loadsAt_vmem h_S1024x1024))
  let _ : Vec F S1x256x1024 .f32 ← Prog.lift (.load outM (outRect c j).toLoadRect (View.loadsAt_vmem h_S1x256x1024))
  Prog.lift (.store outM (outRect c j) (shapeCast S1x256x1024 (k0_pay13 cv w) shapeCasts_S256x1024_S1x256x1024) Finset.univ
    (View.stores_vmem_bits_univ h_S1x256x1024 rfl) (.inl rfl))
  pure (k0_pay13 cv w)

/-- The contribution rounded into slot `s` and sent to the device that owns the block. -/
def sendPartial (c : Dev nD) (s : Fin 7) (p : FVec F S256x1024 .f32) : P F PUnit := do
  let _ : Vec F S1x256x1024 .bf16 ← Prog.lift (.load sendM (slotRect s).toLoadRect (View.loadsAt_vmem h_S1x256x1024))
  Prog.lift (.store sendM (slotRect s) (shapeCast S1x256x1024 (truncf .bf16 p bitsLt_bf16_f32 : FVec F S256x1024 .bf16) shapeCasts_S256x1024_S1x256x1024) Finset.univ
    (View.stores_vmem h_S1x256x1024 ((Memref.isWhole_whole _).storeExact_slice rfl _ (slot_packed s)) (fun _ => rfl)) (.inl rfl))
  Prog.lift (.enqueueDma (slotM sendM s) (.remote (Dev.tc (rsDev c s)) (slotM rsM s) (.dma (slotSem cc0_scratch14 s))) (.dma (slotSem cc0_scratch15 s))
    (((Memref.isWhole_whole _).wordExact_slice rfl _ (slot_words s)).reshape _ _)
    (((Memref.isWhole_whole _).wordExact_slice rfl _ (slot_words s)).reshape _ _) ⟨⟨rfl, Or.inl rfl⟩, trivial⟩)

/-- The first block. -/
def firstBlock (c : Dev nD) : P F PUnit := do
  let q ← queries c 1
  each8 (headStepFirst c q)
  roundWo c
  let p ← project c 1
  sendPartial c 0 p

/-- A block that is sent, from its slot. -/
def laterBlock (c : Dev nD) (s : Fin 7) : P F PUnit := do
  let q ← queries c s.succ
  each8 (headStep c s.succ q)
  let p ← project c s.succ
  sendPartial c s p

/-- The device's own block. -/
def ownBlock (c : Dev nD) : P F PUnit := do
  let q ← queries c 0
  each8 (headStep c 0 q)
  let _ ← project c 0
  pure ⟨⟩

/-- The accumulator set to the device's own contribution. -/
def startAcc (c : Dev nD) : P F PUnit := do
  let o : Vec F S1x256x1024 .f32 ← Prog.lift (.load outM (outRectMe c).toLoadRect (View.loadsAt_vmem h_S1x256x1024))
  let _ : Vec F S256x1024 .f32 ← Prog.lift (.load accM fullB.toLoadRect (View.loadsAt_vmem h_S256x1024))
  Prog.lift (.store accM fullB (k0_pay164 o) Finset.univ (View.stores_vmem_bits_univ h_S256x1024 rfl) (.inl rfl))

/-- The contribution of slot `s` awaited and added. -/
def addPartial (s : Fin 7) : P F PUnit := do
  Prog.lift (.waitDma2 (slotSem cc0_scratch15 s) (slotM sendM s) (slotM rsM s)
    (((Memref.isWhole_whole _).wordExact_slice rfl _ (slot_words s)).reshape _ _)
    (((Memref.isWhole_whole _).wordExact_slice rfl _ (slot_words s)).reshape _ _))
  let a : Vec F S256x1024 .f32 ← Prog.lift (.load accM fullB.toLoadRect (View.loadsAt_vmem h_S256x1024))
  let r : Vec F S1x256x1024 .bf16 ← Prog.lift (.load rsM (slotRect s).toLoadRect (View.loadsAt_vmem h_S1x256x1024))
  let _ : Vec F S256x1024 .f32 ← Prog.lift (.load accM fullB.toLoadRect (View.loadsAt_vmem h_S256x1024))
  Prog.lift (.store accM fullB (k0_pay165 a r) Finset.univ (View.stores_vmem_bits_univ h_S256x1024 rfl) (.inl rfl))

/-- The sum written into the device's own output rows, and rounded into the buffer the peers are sent. -/
def storeSum (c : Dev nD) : P F PUnit := do
  let a : Vec F S256x1024 .f32 ← Prog.lift (.load accM fullB.toLoadRect (View.loadsAt_vmem h_S256x1024))
  let _ : Vec F S1x256x1024 .f32 ← Prog.lift (.load outM (outRectMe c).toLoadRect (View.loadsAt_vmem h_S1x256x1024))
  Prog.lift (.store outM (outRectMe c) (k0_pay173 a) Finset.univ (View.stores_vmem_bits_univ h_S1x256x1024 rfl) (.inl rfl))
  let a : Vec F S256x1024 .f32 ← Prog.lift (.load accM fullB.toLoadRect (View.loadsAt_vmem h_S256x1024))
  let _ : Vec F S256x1024 .bf16 ← Prog.lift (.load redM fullB.toLoadRect (View.loadsAt_vmem h_S256x1024))
  Prog.lift (.store redM fullB (k0_pay174 a) Finset.univ
    (View.stores_vmem h_S256x1024 ((Memref.isWhole_whole _).storeExact_slice rfl _ packedbf16_S256x1024_S256x1024_0_0) (fun _ => rfl)) (.inl rfl))

/-- The rounded sum sent to the device `s + 1` places after. -/
def sendSum (c : Dev nD) (s : Fin 7) : P F PUnit :=
  Prog.lift (.enqueueDma redM (.remote (Dev.tc (agDev c s)) (slotM agM s) (.dma (slotSem cc0_scratch16 s))) (.dma (slotSem cc0_scratch17 s))
    (Memref.isWhole_whole _).wordExact
    (((Memref.isWhole_whole _).wordExact_slice rfl _ (slot_words s)).reshape _ _) ⟨⟨rfl, Or.inl rfl⟩, trivial⟩)

/-- The sum of the device `s + 1` places before awaited and written into its output rows. -/
def storePeer (c : Dev nD) (s : Fin 7) : P F PUnit := do
  Prog.lift (.waitDma2 (slotSem cc0_scratch17 s) redM (slotM agM s) (Memref.isWhole_whole _).wordExact
    (((Memref.isWhole_whole _).wordExact_slice rfl _ (slot_words s)).reshape _ _))
  let r : Vec F S1x256x1024 .bf16 ← Prog.lift (.load agM (slotRect s).toLoadRect (View.loadsAt_vmem h_S1x256x1024))
  let _ : Vec F S1x256x1024 .f32 ← Prog.lift (.load outM (outRect c s.rev.succ).toLoadRect (View.loadsAt_vmem h_S1x256x1024))
  Prog.lift (.store outM (outRect c s.rev.succ) (k0_pay182 r) Finset.univ (View.stores_vmem_bits_univ h_S1x256x1024 rfl) (.inl rfl))

/-- The departures of the partial sums and of the results awaited. -/
def waitSends : P F PUnit := do
  each7 fun s => Prog.lift (.waitDma2 (slotSem cc0_scratch14 s) (slotM rsM s) (slotM sendM s)
    (((Memref.isWhole_whole _).wordExact_slice rfl _ (slot_words s)).reshape _ _)
    (((Memref.isWhole_whole _).wordExact_slice rfl _ (slot_words s)).reshape _ _))
  each7 fun s => Prog.lift (.waitDma2 (slotSem cc0_scratch16 s) (slotM agM s) redM
    (((Memref.isWhole_whole _).wordExact_slice rfl _ (slot_words s)).reshape _ _) (Memref.isWhole_whole _).wordExact)

/-- The body of device `c`. -/
def bodyAt (c : Dev nD) : P F PUnit := do
  startLoads c
  barrier c
  scaleWq c
  firstBlock c
  laterBlock c 1; laterBlock c 2; laterBlock c 3; laterBlock c 4; laterBlock c 5; laterBlock c 6
  ownBlock c
  startAcc c
  each7 addPartial
  storeSum c
  each7 (sendSum c)
  each7 (storePeer c)
  waitSends

/-- The whole body. -/
def body : P F PUnit := do
  let c ← Prog.lift .deviceId
  bodyAt c

end Cert.KernelIdeal.Swa

end
-- ==== Proof.Swa.Pieces.lean ====
/-
  The peers of a device and the pieces its buffers are held in.

  The seven peers of device `c` are `fwd c s`, the device `s + 1` places after it. A buffer the body fills piece by piece
  is cut into slabs (keys and values, by head), columns (the context, by head), slots (partial sums and results, by peer)
  or row blocks (the output); for each cut, which piece holds an index.
-/
module

public import proofs.«01_k».proof.Proof.Swa.Body
public import Idealize.ShloMosaic.Lib.Pointwise.Index

@[expose] public section

noncomputable section

namespace Cert.KernelIdeal.Swa

open Idealize.ShloMosaic Idealize.SL.Sem Cert.KernelIdeal.Gen

/-! ## Peers -/

/-- The device `s + 1` places after `c`. -/
def fwd (c : Dev nD) (s : Fin 7) : Dev nD := ⟨(c.val + s.val + 1) % 8, Nat.mod_lt _ (by decide)⟩

theorem fwd_rev : ∀ (c : Dev nD) (s : Fin 7), fwd (fwd c s) s.rev = c := by decide +kernel

theorem barDev_eq (c : Dev nD) (s : Fin 7) : barDev c s = fwd c s := by
  fin_cases s
  · exact Fin.ext (k0_dev1_eq c)
  · exact Fin.ext (k0_dev2_eq c)
  · exact Fin.ext (k0_dev3_eq c)
  · exact Fin.ext (k0_dev4_eq c)
  · exact Fin.ext (k0_dev5_eq c)
  · exact Fin.ext (k0_dev6_eq c)
  · exact Fin.ext (k0_dev7_eq c)
theorem rsDev_eq (c : Dev nD) (s : Fin 7) : rsDev c s = fwd c s := by
  fin_cases s
  · exact Fin.ext (k0_dev8_eq c)
  · exact Fin.ext (k0_dev9_eq c)
  · exact Fin.ext (k0_dev10_eq c)
  · exact Fin.ext (k0_dev11_eq c)
  · exact Fin.ext (k0_dev12_eq c)
  · exact Fin.ext (k0_dev13_eq c)
  · exact Fin.ext (k0_dev14_eq c)
theorem agDev_eq (c : Dev nD) (s : Fin 7) : agDev c s = fwd c s := by
  fin_cases s
  · exact Fin.ext (k0_dev15_eq c)
  · exact Fin.ext (k0_dev16_eq c)
  · exact Fin.ext (k0_dev17_eq c)
  · exact Fin.ext (k0_dev18_eq c)
  · exact Fin.ext (k0_dev19_eq c)
  · exact Fin.ext (k0_dev20_eq c)
  · exact Fin.ext (k0_dev21_eq c)

/-! ## Pieces -/

section Key

variable {ι κ : Type} [DecidableEq κ] (I : κ → Finset ι) (key : ι → κ) (h : ∀ b i, i ∈ I b ↔ key i = b)
include h

/-- Pieces named by a key are disjoint, -/
theorem disj_of_key (b b' : κ) (hb : b ≠ b') : Disjoint (I b) (I b') :=
  Finset.disjoint_left.mpr fun i hi hi' => hb (((h b i).mp hi).symm.trans ((h b' i).mp hi'))

/-- and cover everything. -/
theorem cover_of_key [Fintype ι] [DecidableEq ι] [Fintype κ] : Finset.univ.biUnion I = Finset.univ :=
  Finset.eq_univ_iff_forall.mpr fun i => Finset.mem_biUnion.mpr ⟨key i, Finset.mem_univ _, (h _ i).mpr rfl⟩

end Key

/-- The head whose slab holds an index of the keys. -/
def slabKey (i : S8x2048x128.Idx) : Fin 8 := i 0
theorem slab_mem (h : Fin 8) (i : S8x2048x128.Idx) : i ∈ (slabRect h).set ↔ slabKey i = h := by
  have h0 : (i 0).val < 8 := (i 0).isLt
  have h1 : (i 1).val < 2048 := (i 1).isLt
  have h2 : (i 2).val < 128 := (i 2).isLt
  rw [Rect.mem_set_unit, Fin.forall_fin_succ, Fin.forall_fin_succ, Fin.forall_fin_succ, Fin.ext_iff]
  show (h.val ≤ (i 0).val ∧ (i 0).val < h.val + 1) ∧ (0 ≤ (i 1).val ∧ (i 1).val < 0 + 2048) ∧ (0 ≤ (i 2).val ∧ (i 2).val < 0 + 128) ∧ _ ↔ (i 0).val = h.val
  constructor
  · rintro ⟨h, -⟩; omega
  · intro h; exact ⟨by omega, by omega, by omega, fun a => a.elim0⟩

/-- The head whose columns hold an index of the keys in HBM. -/
def hcolKey (i : S2048x1024.Idx) : Fin 8 := ⟨(i 1).val / 128, by have : (i 1).val < 1024 := (i 1).isLt; omega⟩
theorem hcol_mem (h : Fin 8) (i : S2048x1024.Idx) : i ∈ (hcolRect h).set ↔ hcolKey i = h := by
  have h0 : (i 0).val < 2048 := (i 0).isLt
  have h1 : (i 1).val < 1024 := (i 1).isLt
  rw [Rect.mem_set_unit, Fin.forall_fin_succ, Fin.forall_fin_succ, Fin.ext_iff]
  show (0 ≤ (i 0).val ∧ (i 0).val < 0 + 2048) ∧ (128 * h.val ≤ (i 1).val ∧ (i 1).val < 128 * h.val + 128) ∧ _ ↔ (i 1).val / 128 = h.val
  constructor
  · rintro ⟨-, h, -⟩; omega
  · intro h; exact ⟨by omega, by omega, fun a => a.elim0⟩

/-- The head whose columns hold an index of a context block. -/
def ctxKey (i : S256x1024.Idx) : Fin 8 := ⟨(i 1).val / 128, by have : (i 1).val < 1024 := (i 1).isLt; omega⟩
theorem ctx_mem (h : Fin 8) (i : S256x1024.Idx) : i ∈ (ctxRect h).set ↔ ctxKey i = h := by
  have h0 : (i 0).val < 256 := (i 0).isLt
  have h1 : (i 1).val < 1024 := (i 1).isLt
  rw [Rect.mem_set_unit, Fin.forall_fin_succ, Fin.forall_fin_succ, Fin.ext_iff]
  show (0 ≤ (i 0).val ∧ (i 0).val < 0 + 256) ∧ (128 * h.val ≤ (i 1).val ∧ (i 1).val < 128 * h.val + 128) ∧ _ ↔ (i 1).val / 128 = h.val
  constructor
  · rintro ⟨-, h, -⟩; omega
  · intro h; exact ⟨by omega, by omega, fun a => a.elim0⟩

/-- The slot that holds an index of a seven-slot buffer. -/
def slotKey (i : S7x256x1024.Idx) : Fin 7 := i 0
theorem slot_mem (s : Fin 7) (i : S7x256x1024.Idx) : i ∈ (slotRect s).set ↔ slotKey i = s := by
  have h0 : (i 0).val < 7 := (i 0).isLt
  have h1 : (i 1).val < 256 := (i 1).isLt
  have h2 : (i 2).val < 1024 := (i 2).isLt
  rw [Rect.mem_set_unit, Fin.forall_fin_succ, Fin.forall_fin_succ, Fin.forall_fin_succ, Fin.ext_iff]
  show (s.val ≤ (i 0).val ∧ (i 0).val < s.val + 1) ∧ (0 ≤ (i 1).val ∧ (i 1).val < 0 + 256) ∧ (0 ≤ (i 2).val ∧ (i 2).val < 0 + 1024) ∧ _ ↔ (i 0).val = s.val
  constructor
  · rintro ⟨h, -⟩; omega
  · intro h; exact ⟨by omega, by omega, by omega, fun a => a.elim0⟩

/-- Which of device `c`'s blocks, counted from its own, holds an output row. -/
def outKey (c : Dev nD) (i : S1x2048x1024.Idx) : Fin 8 := ⟨((i 1).val / 256 + 8 - c.val) % 8, Nat.mod_lt _ (by decide)⟩
theorem out_mem (c : Dev nD) (j : Fin 8) (i : S1x2048x1024.Idx) : i ∈ (outRect c j).set ↔ outKey c i = j := by
  have h0 : (i 0).val < 1 := (i 0).isLt
  have h1 : (i 1).val < 2048 := (i 1).isLt
  have h2 : (i 2).val < 1024 := (i 2).isLt
  have hc : c.val < 8 := c.isLt
  have hj : j.val < 8 := j.isLt
  rw [Rect.mem_set_unit, k0_off12_eq c j, Fin.forall_fin_succ, Fin.forall_fin_succ, Fin.forall_fin_succ, Fin.ext_iff]
  show (0 ≤ (i 0).val ∧ (i 0).val < 0 + 1) ∧ (256 * ((c.val + j.val) % 8) ≤ (i 1).val ∧ (i 1).val < 256 * ((c.val + j.val) % 8) + 256)
    ∧ (0 ≤ (i 2).val ∧ (i 2).val < 0 + 1024) ∧ _ ↔ ((i 1).val / 256 + 8 - c.val) % 8 = j.val
  constructor
  · rintro ⟨-, h, -⟩; omega
  · intro h; exact ⟨by omega, by omega, by omega, fun a => a.elim0⟩

/-- The reduction's own spelling of the own block's rows names the same rows. -/
theorem outMe_off (c : Dev nD) : k0_off13 c = k0_off12 c (BitVec.ofNat 32 (0 : Fin 8).val) := by
  rw [k0_off13_eq c, k0_off12_eq c 0]
  have hc : c.val < 8 := c.isLt
  show ![0, 256 * c.val, 0] = ![0, 256 * ((c.val + 0) % 8), 0]
  rw [Nat.add_zero, Nat.mod_eq_of_lt hc]
theorem outMe_set (c : Dev nD) : (outRectMe c).set = (outRect c 0).set := by
  ext i
  rw [Rect.mem_set_unit, Rect.mem_set_unit, outMe_off]

end Cert.KernelIdeal.Swa

end
-- ==== Proof.Swa.Values.lean ====
/-
  What each buffer of each device holds, as a function of the arrays the devices were given.

  `V c` is what device `c`'s arrays hold when the kernel starts. Every definition below names the contents of one buffer of
  device `c` once it has been filled; a buffer filled in pieces is named whole, and a lemma says that reading a piece gives
  what was written or copied there.
-/
module

public import proofs.«01_k».proof.Proof.Swa.Pieces
public import Idealize.ShloMosaic.Lib.Pipeline.Value

@[expose] public section

noncomputable section

namespace Cert.KernelIdeal.Swa

open Idealize.ShloMosaic Idealize.ShloMosaic.TcCoe Idealize.SL.Sem Cert.KernelIdeal.Gen

variable {F : FTy → Type} [FloatOps F] [Named F]
variable (V : Dev nD → Valuation τ sig (Elt F))

/-! ## Loads -/

/-- `x` of device `c`, as a [2048, 1024] array. -/
def xC (c : Dev nD) : Vec F S2048x1024 .f32 := xSrc.view.read (Elt F) (V c main_arg0)
/-- Device `c`'s columns of `Wq`. -/
def wqC (c : Dev nD) : Vec F S1024x1024 .f32 := (wqSrc c).view.read (Elt F) (V c main_arg1)
/-- Device `c`'s rows of `Wo`. -/
def woC (c : Dev nD) : Vec F S1024x1024 .f32 := (woSrc c).view.read (Elt F) (V c main_arg4)
/-- Columns `128 h …` of a [2048, 1024] array as slab `h`. -/
def slabs (f : Vec F S2048x1024 .bf16) : Vec F S8x2048x128 .bf16 := fun i =>
  f (ix2 (i 1) (⟨128 * (i 0).val + (i 2).val, by
    have h0 : (i 0).val < 8 := (i 0).isLt
    have h2 : (i 2).val < 128 := (i 2).isLt
    omega⟩ : Fin 1024))
/-- Device `c`'s keys and values, head by head. -/
def kC (c : Dev nD) : Vec F S8x2048x128 .bf16 := slabs (V c main_v2)
def vC (c : Dev nD) : Vec F S8x2048x128 .bf16 := slabs (V c main_v4)
/-- The scaled `Wq` and the rounded `Wo`. -/
def wqbC (c : Dev nD) : Vec F S1024x1024 .bf16 := k0_pay1 (wqC V c)
def wobC (c : Dev nD) : Vec F S1024x1024 .bf16 := k0_pay12 (woC V c)

/-! ## One block's contribution -/

/-- The queries of block `(c + j) % 8`. -/
def qV (c : Dev nD) (j : Fin 8) : FVec F S256x1024 .f32 :=
  k0_pay2 (xM.view.readAt (Elt F) (xRect c j).toLoadRect (xC V c)) (wqbC V c)
/-- One head's context of that block. -/
def hV (c : Dev nD) (j h : Fin 8) : FVec F S256x128 .bf16 :=
  headV h (qV V c j) (maskV c j) (kM.view.readAt (Elt F) (kvRect c j h).toLoadRect (kC V c)) (vM.view.readAt (Elt F) (kvRect c j h).toLoadRect (vC V c))
/-- Eight heads' contexts side by side. -/
def sideBySide (f : Fin 8 → FVec F S256x128 .bf16) : Vec F S256x1024 .bf16 := fun i =>
  f (ctxKey i) (ix2 (i 0) (⟨(i 1).val % 128, Nat.mod_lt _ (by decide)⟩ : Fin 128))
/-- The block's context. -/
def ctxC (c : Dev nD) (j : Fin 8) : Vec F S256x1024 .bf16 := sideBySide (hV V c j)
/-- The block's contribution to the output. -/
def pV (c : Dev nD) (j : Fin 8) : FVec F S256x1024 .f32 := k0_pay13 (ctxC V c j) (wobC V c)

/-! ## The exchange -/

/-- Seven [256, 1024] arrays, one per slot. -/
def stack (f : Fin 7 → FVec F S256x1024 .bf16) : Vec F S7x256x1024 .bf16 := fun i => f (slotKey i) (ix2 (i 1) (i 2))
/-- The rounded contribution device `c` sends from slot `s`. -/
def sendV (c : Dev nD) (s : Fin 7) : FVec F S256x1024 .bf16 := truncf .bf16 (pV V c s.succ) bitsLt_bf16_f32
def sendC (c : Dev nD) : Vec F S7x256x1024 .bf16 := stack (sendV V c)
/-- The contributions device `c` receives: slot `s` from the device `s + 1` places before it. -/
def rsC (c : Dev nD) : Vec F S7x256x1024 .bf16 := stack fun s => sendV V (fwd c s.rev) s
/-- The running sum after the first `k` contributions received. -/
def accV (c : Dev nD) : ℕ → FVec F S256x1024 .f32
  | 0 => k0_pay164 (shapeCast S1x256x1024 (pV V c 0) shapeCasts_S256x1024_S1x256x1024)
  | k + 1 => if h : k < 7 then k0_pay165 (accV c k) (rsM.view.readAt (Elt F) (slotRect ⟨k, h⟩).toLoadRect (rsC V c)) else accV c k
/-- The sum over all devices, and the rounded sum. -/
def sumV (c : Dev nD) : FVec F S256x1024 .f32 := accV V c 7
def redC (c : Dev nD) : Vec F S256x1024 .bf16 := k0_pay174 (sumV V c)
/-- The rounded sums device `c` receives. -/
def agC (c : Dev nD) : Vec F S7x256x1024 .bf16 := stack fun s => redC V (fwd c s.rev)

/-! ## The output -/

/-- What block `(c + j) % 8` of device `c`'s output holds at the end: the device's own sum, or a peer's rounded sum. -/
def outV (c : Dev nD) (j : Fin 8) : Vec F S1x256x1024 .f32 :=
  match j with
  | 0 => k0_pay173 (sumV V c)
  | ⟨s + 1, h⟩ => k0_pay182 (agM.view.readAt (Elt F) (slotRect (Fin.rev ⟨s, Nat.lt_of_succ_lt_succ h⟩)).toLoadRect (agC V c))
/-- Eight blocks of rows, block `j` at `(c + j) % 8`, as one array. -/
def blocks (c : Dev nD) (f : Fin 8 → Vec F S1x256x1024 .f32) : Vec F S1x2048x1024 .f32 := fun i =>
  f (outKey c i) (ix3 (0 : Fin 1) (⟨(i 1).val % 256, Nat.mod_lt _ (by decide)⟩ : Fin 256) (i 2))
/-- The output while the contributions are being computed: every block at the device's own contribution. -/
def ownC (c : Dev nD) : Vec F S1x2048x1024 .f32 :=
  blocks c fun j => shapeCast S1x256x1024 (pV V c j) shapeCasts_S256x1024_S1x256x1024
/-- The output at the end. -/
def outC (c : Dev nD) : Vec F S1x2048x1024 .f32 := blocks c (outV V c)

/-! ## Reading a piece -/

theorem emb_mem {s : Shape} (r : Rect s) (x : r.shape.Idx) : r.emb x ∈ r.set := by
  rw [← Rect.map_emb_univ]; exact Finset.mem_map_of_mem _ (Finset.mem_univ x)

theorem read_xM (c : Dev nD) : xM.view.read (Elt F) (xC V c) = xSrc.view.read (Elt F) (V c main_arg0) := rfl

/-- Slab `h` of the slabs is head `h`'s columns. -/
theorem read_slab (f : Vec F S2048x1024 .bf16) (h : Fin 8) (x : S2048x128.Idx) :
    slabs f ((slabRect h).emb (Shape.reshapeEquiv squeezes_S1x2048x128_S2048x128.numel_eq x)) = f ((hcolRect h).emb x) := by
  have e : Shape.reshapeEquiv squeezes_S1x2048x128_S2048x128.numel_eq x = ix3 (0 : Fin 1) (x 0 : Fin 2048) (x 1 : Fin 128) :=
    Shape.reshapeEquiv_eq_of_rowMajor _ ((Shape.rowMajor_val_three (d := ![1, 2048, 128]) _).trans (Eq.trans (by
      show ((0 : ℕ) * 2048 + (x 0).val) * 128 + (x 1).val = (x 0).val * 128 + (x 1).val; omega)
      (Shape.rowMajor_val_two (d := ![2048, 128]) x).symm))
  rw [e]
  unfold slabs
  refine congrArg f (funext fun a => ?_)
  fin_cases a
  · refine Fin.ext ?_; show 0 + 1 * (x 0).val = 0 + 1 * (x 0).val; rfl
  · refine Fin.ext ?_; show 128 * (h.val + 1 * 0) + (0 + 1 * (x 1).val) = 128 * h.val + 1 * (x 1).val; omega

theorem read_kM (c : Dev nD) (h : Fin 8) : (headDst kM h).view.read (Elt F) (kC V c) = (headSrc kH h).view.read (Elt F) (V c main_v2) :=
  funext fun x => read_slab (V c main_v2) h x
theorem read_vM (c : Dev nD) (h : Fin 8) : (headDst vM h).view.read (Elt F) (vC V c) = (headSrc vH h).view.read (Elt F) (V c main_v4) :=
  funext fun x => read_slab (V c main_v4) h x

/-- Columns of head `h` of contexts side by side are head `h`'s context. -/
theorem read_ctx (f : Fin 8 → FVec F S256x128 .bf16) (h : Fin 8) : (ctxM.access (ctxRect h)).read (Elt F) (sideBySide f) = f h := by
  funext x
  have h1 : (x 1).val < 128 := (x 1).isLt
  show sideBySide f ((ctxRect h).emb x) = f h x
  unfold sideBySide
  rw [(ctx_mem h _).mp (emb_mem _ x)]
  refine congrArg (f h) (funext fun a => ?_)
  fin_cases a
  · refine Fin.ext ?_; show 0 + 1 * (x 0).val = (x 0).val; omega
  · refine Fin.ext ?_; show (128 * h.val + 1 * (x 1).val) % 128 = (x 1).val; omega

/-- Slot `s` of a stack, as the vector unit and as a transfer read it. -/
theorem stack_slot (f : Fin 7 → FVec F S256x1024 .bf16) (s : Fin 7) (x : S1x256x1024.Idx) :
    stack f ((slotRect s).emb x) = f s (ix2 (x 1) (x 2)) := by
  unfold stack
  rw [(slot_mem s _).mp (emb_mem _ x)]
  refine congrArg (f s) (funext fun a => ?_)
  fin_cases a
  · refine Fin.ext ?_; show 0 + 1 * (x 1).val = (x 1).val; omega
  · refine Fin.ext ?_; show 0 + 1 * (x 2).val = (x 2).val; omega
theorem shapeCast_slot {α : Type} (v : S256x1024.Idx → α) : shapeCast S1x256x1024 v shapeCasts_S256x1024_S1x256x1024 = fun x => v (ix2 (x 1) (x 2)) := by
  funext x
  have h0 : (x 0).val < 1 := (x 0).isLt
  refine shapeCast_apply v _ x _ ?_
  rw [Shape.rowMajor_val_three, Shape.rowMajor_val_two]
  show (x 1).val * 1024 + (x 2).val = ((x 0).val * 256 + (x 1).val) * 1024 + (x 2).val
  omega
theorem read_slot (f : Fin 7 → FVec F S256x1024 .bf16) (s : Fin 7) :
    (sendM.access (slotRect s)).read (Elt F) (stack f) = shapeCast S1x256x1024 (f s) shapeCasts_S256x1024_S1x256x1024 := by
  rw [shapeCast_slot]
  exact funext fun x => stack_slot f s x
theorem stack_squeeze (f : Fin 7 → FVec F S256x1024 .bf16) (s : Fin 7) (x : S256x1024.Idx) :
    stack f ((slotRect s).emb (Shape.reshapeEquiv squeezes_S1x256x1024_S256x1024.numel_eq x)) = f s x := by
  have e : Shape.reshapeEquiv squeezes_S1x256x1024_S256x1024.numel_eq x = ix3 (0 : Fin 1) (x 0 : Fin 256) (x 1 : Fin 1024) :=
    Shape.reshapeEquiv_eq_of_rowMajor _ ((Shape.rowMajor_val_three (d := ![1, 256, 1024]) _).trans (Eq.trans (by
      show ((0 : ℕ) * 256 + (x 0).val) * 1024 + (x 1).val = (x 0).val * 1024 + (x 1).val; omega)
      (Shape.rowMajor_val_two (d := ![256, 1024]) x).symm))
  rw [e]
  exact (stack_slot f s (ix3 (0 : Fin 1) (x 0 : Fin 256) (x 1 : Fin 1024))).trans (congrArg (f s) (ix2_eta x))
theorem read_sendM (f : Fin 7 → FVec F S256x1024 .bf16) (s : Fin 7) : (slotM sendM s).view.read (Elt F) (stack f) = f s :=
  funext fun x => stack_squeeze f s x
theorem read_rsM (f : Fin 7 → FVec F S256x1024 .bf16) (s : Fin 7) : (slotM rsM s).view.read (Elt F) (stack f) = f s :=
  funext fun x => stack_squeeze f s x
theorem read_agM (f : Fin 7 → FVec F S256x1024 .bf16) (s : Fin 7) : (slotM agM s).view.read (Elt F) (stack f) = f s :=
  funext fun x => stack_squeeze f s x

/-- Block `j` of blocks of rows. -/
theorem read_out (c : Dev nD) (f : Fin 8 → Vec F S1x256x1024 .f32) (j : Fin 8) : (outM.access (outRect c j)).read (Elt F) (blocks c f) = f j := by
  funext x
  have h0 : (x 0).val < 1 := (x 0).isLt
  have h1 : (x 1).val < 256 := (x 1).isLt
  show blocks c f ((outRect c j).emb x) = f j x
  unfold blocks
  rw [(out_mem c j _).mp (emb_mem _ x)]
  have e : ((outRect c j).emb x 1).val = 256 * ((c.val + j.val) % 8) + (x 1).val := by
    show (k0_off12 c (BitVec.ofNat 32 j.val)) 1 + 1 * (x 1).val = _
    rw [k0_off12_eq c j]; show 256 * ((c.val + j.val) % 8) + 1 * (x 1).val = _; omega
  have e2 : ((outRect c j).emb x 2).val = (x 2).val := by
    show (k0_off12 c (BitVec.ofNat 32 j.val)) 2 + 1 * (x 2).val = _
    rw [k0_off12_eq c j]; show 0 + 1 * (x 2).val = _; omega
  refine congrArg (f j) (funext fun a => ?_)
  fin_cases a
  · refine Fin.ext ?_; show 0 = (x 0).val; omega
  · refine Fin.ext ?_; show ((outRect c j).emb x 1).val % 256 = (x 1).val; rw [e]; omega
  · exact Fin.ext e2

/-- The reduction's spelling of the own block reads the own block. -/
theorem read_outMe (c : Dev nD) (g : Vec F S1x2048x1024 .f32) :
    (outM.access (outRectMe c)).read (Elt F) g = (outM.access (outRect c 0)).read (Elt F) g := by
  funext x
  show g ((outRectMe c).emb x) = g ((outRect c 0).emb x)
  refine congrArg g (funext fun a => Fin.ext ?_)
  show k0_off13 c a + 1 * (x a).val = k0_off12 c (BitVec.ofNat 32 (0 : Fin 8).val) a + 1 * (x a).val
  rw [outMe_off]

end Cert.KernelIdeal.Swa

end
-- ==== Proof.Swa.Protocol.lean ====
/-
  The protocol: every cell the body waits on, what each unit or transfer hands over, and what each device owes.

  A device has one barrier cell and 47 cells of its own: 19 loads, and per peer slot the departure and the arrival of a
  partial sum and of a result. Each takes one round. The barrier cell takes seven units, one from each peer; the unit of
  the peer `e + 1` places after hands over slot `e` of that peer's two receive buffers, into which the device may then
  copy. An own cell takes one transfer.
-/
module

public import proofs.«01_k».proof.Proof.Swa.Values
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The resource algebra: the pipeline's copy and the protocol's -/

abbrev UT : Type := Rounds.URounds (GSem nD τ sig) (Fin 7)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

variable (V : Dev nD → Valuation τ sig (Elt F))

/-! ## Cells -/

/-- The cells of a device's own: `x`, `Wq`, `Wo`; keys and values by head; departures (0) and arrivals (1) of partial sums,
    departures (2) and arrivals (3) of results, by slot. -/
abbrev Own : Type := Fin 3 ⊕ (Fin 2 × Fin 8) ⊕ (Fin 4 × Fin 7)

abbrev ldO (i : Fin 3) : Own := .inl i
abbrev kvO (k : Fin 2) (h : Fin 8) : Own := .inr (.inl (k, h))
abbrev exO (a : Fin 4) (s : Fin 7) : Own := .inr (.inr (a, s))

/-- The semaphore of each own cell. -/
abbrev osem : Own → SemLoc sig
  | .inl i => .dma (loadSem ⟨i.val, by omega⟩)
  | .inr (.inl (0, h)) => .dma (loadSem (kIx h))
  | .inr (.inl (1, h)) => .dma (loadSem (vIx h))
  | .inr (.inr (0, s)) => .dma (slotSem cc0_scratch14 s)
  | .inr (.inr (1, s)) => .dma (slotSem cc0_scratch15 s)
  | .inr (.inr (2, s)) => .dma (slotSem cc0_scratch16 s)
  | .inr (.inr (3, s)) => .dma (slotSem cc0_scratch17 s)

theorem osem_inj : Function.Injective osem := by decide +kernel
theorem osem_ne_bar : ∀ o : Own, osem o ≠ .reg barSem := by decide +kernel

abbrev barC (c : Dev nD) : GSem nD τ sig := ((c : Thread nD τ), .reg barSem)
abbrev ownC' (c : Dev nD) (o : Own) : GSem nD τ sig := ((c : Thread nD τ), osem o)

open Classical in
/-- Which cell a semaphore is: an own cell, the barrier cell, or none of the protocol's. -/
def decode (g : SemLoc sig) : Option (Option Own) :=
  if h : ∃ o, osem o = g then some (some h.choose) else if g = .reg barSem then some none else none

theorem decode_own (o : Own) : decode (osem o) = some (some o) := by
  have h : ∃ o', osem o' = osem o := ⟨o, rfl⟩
  unfold decode
  rw [dif_pos h, osem_inj h.choose_spec]
theorem decode_bar : decode (.reg barSem) = some none := by
  unfold decode
  rw [dif_neg (fun ⟨o, h⟩ => osem_ne_bar o h), if_pos rfl]

/-! ## What is handed over -/

/-- Slot `s` of a seven-slot buffer of device `c`, at contents `f`. -/
abbrev slotPts (m : Memref sig .tc .vmem S7x256x1024 .bf16) (c : Dev nD) (s : Fin 7) (f : Buf (Elt F) ((slotM m s).view.loc (c : Thread nD τ))) : sProp 𝕄 :=
  (slotM m s).view.loc (c : Thread nD τ) ↦[(slotM m s).view.set]{fullShare} f

/-- A transfer's destination filled, and its source back. -/
abbrev landed {sp sp' : Space} {s : Shape} {e : EltTy} (c : Dev nD) (src : Memref sig .tc sp s e) (dst : Memref sig .tc sp' s e)
    (fs : Buf (Elt F) (src.view.loc (c : Thread nD τ))) (g : Buf (Elt F) (dst.view.loc (c : Thread nD τ))) : sProp 𝕄 :=
  iprop((dst.view.loc (c : Thread nD τ) ↦[dst.view.set]{fullShare} g) ∗ (src.view.loc (c : Thread nD τ) ↦[src.view.set]{fullShare} fs))

/-- The share of the rounded sum each of the seven copies reads. -/
abbrev redShare (s : Fin 7) : PosShare TreeShare := Transfers.shareTok fullShare 7 s

/-- What the transfer completing on an own cell hands over. -/
def ownPay (c : Dev nD) : Own → sProp 𝕄
  | .inl 0 => landed c xSrc xM (V c main_arg0) (xC V c)
  | .inl 1 => landed c (wqSrc c) wqM (V c main_arg1) (wqC V c)
  | .inl 2 => landed c (woSrc c) woM (V c main_arg4) (woC V c)
  | .inr (.inl (0, h)) => landed c (headSrc kH h) (headDst kM h) (V c main_v2) (kC V c)
  | .inr (.inl (1, h)) => landed c (headSrc vH h) (headDst vM h) (V c main_v4) (vC V c)
  | .inr (.inr (0, s)) => slotPts sendM c s (sendC V c)
  | .inr (.inr (1, s)) => slotPts rsM c s (rsC V c)
  | .inr (.inr (2, s)) => redM.view.loc (c : Thread nD τ) ↦[redM.view.set]{redShare s} redC V c
  | .inr (.inr (3, s)) => slotPts agM c s (agC V c)

/-- The unit of the peer `e + 1` places after `c` hands over slot `e` of its receive buffers. -/
def barPay (c : Dev nD) (e : Fin 7) : sProp 𝕄 :=
  iprop((∃ f, slotPts (F := F) rsM (fwd c e) e f) ∗ (∃ f, slotPts (F := F) agM (fwd c e) e f)
    ∗ reached ER (ownC' (fwd c e) (exO 1 e)) 0 ∗ reached ER (ownC' (fwd c e) (exO 3 e)) 0)

instance ownPay_storable (c : Dev nD) (o : Own) : BI.Storable (upEmb : UEmb _ 𝕄) (ownPay V c o) := by
  unfold ownPay; split <;> infer_instance
set_option synthInstance.maxHeartbeats 400000 in
instance barPay_storable (c : Dev nD) (e : Fin 7) : BI.Storable (upEmb : UEmb _ 𝕄) (barPay (F := F) c e) := by
  unfold barPay; infer_instance

/-- What a transfer into a slot adds to its cell. -/
abbrev N7 : ℕ := (slotM rsM 0).view.dmaCredit

/-- The units an own cell's transfer adds. -/
def amt : Own → ℕ
  | .inl 0 => xM.view.dmaCredit
  | .inl 1 => wqM.view.dmaCredit
  | .inl 2 => woM.view.dmaCredit
  | .inr (.inl (0, h)) => (headDst kM h).view.dmaCredit
  | .inr (.inl (1, h)) => (headDst vM h).view.dmaCredit
  | .inr (.inr _) => N7

theorem amt_pos (o : Own) : 0 < amt o := by
  unfold amt; split <;> exact View.dmaCredit_pos _ (by decide)

/-! ## The schedule -/

def swaRd : Rounds.Schedule (GSem nD τ sig) (Fin 7) 𝕄 where
  duties g r := if r = 0 ∧ g.1.2 = .tc then (match decode g.2 with | some none => Finset.univ | some (some _) => {0} | none => ∅) else ∅
  unitless _ := False
  amount g _ _ := match decode g.2 with | some (some o) => amt o | _ => 1
  payload g _ d := match decode g.2 with | some none => barPay g.1.1 d | some (some o) => ownPay V g.1.1 o | none => iprop(emp)
  amount_pos g _ _ _ := by
    split
    · exact amt_pos _
    · exact Nat.one_pos

instance swaRd_payload_storable (g : GSem nD τ sig) (r : ℕ) (d : Fin 7) : BI.Storable (upEmb : UEmb _ 𝕄) ((swaRd V).payload g r d) := by
  show BI.Storable upEmb (match decode g.2 with | some none => barPay g.1.1 d | some (some o) => ownPay V g.1.1 o | none => iprop(emp))
  split <;> infer_instance

theorem duties_own (c : Dev nD) (o : Own) : (swaRd V).duties (ownC' c o) 0 = {0} := by
  dsimp only [swaRd]; rw [if_pos ⟨rfl, rfl⟩, decode_own]
theorem duties_bar (c : Dev nD) : (swaRd V).duties (barC c) 0 = Finset.univ := by
  dsimp only [swaRd]; rw [if_pos ⟨rfl, rfl⟩, decode_bar]
theorem duties_later (g : GSem nD τ sig) : ∀ r, 1 ≤ r → (swaRd V).duties g r = ∅ :=
  fun r hr => by dsimp only [swaRd]; rw [if_neg (fun h => by omega)]
theorem amount_own (c : Dev nD) (o : Own) (d : Fin 7) : (swaRd V).amount (ownC' c o) 0 d = amt o := by
  dsimp only [swaRd]; rw [decode_own]
theorem amount_bar (c : Dev nD) (d : Fin 7) : (swaRd V).amount (barC c) 0 d = 1 := by
  dsimp only [swaRd]; rw [decode_bar]
theorem payload_own (c : Dev nD) (o : Own) (d : Fin 7) : (swaRd V).payload (ownC' c o) 0 d = ownPay V c o := by
  dsimp only [swaRd]; rw [decode_own]
theorem payload_bar (c : Dev nD) (d : Fin 7) : (swaRd V).payload (barC c) 0 d = barPay c d := by
  dsimp only [swaRd]; rw [decode_bar]
theorem expect_own (c : Dev nD) (o : Own) : (swaRd V).expect (ownC' c o) 0 = amt o := by
  unfold Schedule.expect Schedule.amountOf; rw [duties_own, Finset.sum_singleton, amount_own]
theorem expect_bar (c : Dev nD) : (swaRd V).expect (barC c) 0 = 7 := by
  unfold Schedule.expect Schedule.amountOf
  rw [duties_bar, Finset.sum_congr rfl (fun d _ => amount_bar V c d), Finset.sum_const]; rfl
theorem rest_own (c : Dev nD) (o : Own) :
    bigSep ((swaRd V).duties (ownC' c o) 0 \ ∅) (fun d => (swaRd V).payload (ownC' c o) 0 d) = ownPay V c o := by
  rw [Finset.sdiff_empty, duties_own, bigSep_singleton, payload_own]
theorem rest_bar (c : Dev nD) :
    bigSep ((swaRd V).duties (barC c) 0 \ ∅) (fun d => (swaRd V).payload (barC c) 0 d) = bigSep Finset.univ (barPay (F := F) c) := by
  rw [Finset.sdiff_empty, duties_bar]; exact bigSep_congr fun d _ => payload_bar V c d

/-! ## What each device owes, and the levels -/

/-- What remains to pay to the cells `g s`, `N` units each, from slot `k` on. -/
def tail (g : Fin 7 → GSem nD τ sig) (N : ℕ) (k : ℕ) : CellTallies nD τ sig Unit :=
  ∑ s ∈ Finset.univ.filter (fun s : Fin 7 => k ≤ s.val), tallyAt (g s) () N

theorem tail_step (g : Fin 7 → GSem nD τ sig) (N : ℕ) (s : Fin 7) : tail g N s.val = tail g N (s.val + 1) + tallyAt (g s) () N := by
  unfold tail
  rw [show (Finset.univ.filter fun s' : Fin 7 => s.val ≤ s'.val) = insert s (Finset.univ.filter fun s' : Fin 7 => s.val + 1 ≤ s'.val) from by
    ext s'; simp only [Finset.mem_filter, Finset.mem_univ, true_and, Finset.mem_insert, Fin.ext_iff]; omega,
    Finset.sum_insert (by simp), add_comm]
theorem tail_end (g : Fin 7 → GSem nD τ sig) (N : ℕ) : tail g N 7 = 0 := by
  unfold tail
  rw [Finset.filter_false_of_mem (fun s _ => by omega), Finset.sum_empty]

abbrev barT (c : Dev nD) : ℕ → CellTallies nD τ sig Unit := tail (fun s => barC (fwd c s)) 1
abbrev rsT (c : Dev nD) : ℕ → CellTallies nD τ sig Unit := tail (fun s => ownC' (fwd c s) (exO 1 s)) N7
abbrev agT (c : Dev nD) : ℕ → CellTallies nD τ sig Unit := tail (fun s => ownC' (fwd c s) (exO 3 s)) N7

/-- At launch a device owes every peer a unit, a partial sum and a result. -/
def O₀ (c : Dev nD) : CellTallies nD τ sig Unit := agT c 0 + rsT c 0 + barT c 0

def L (g : GSem nD τ sig) : Finset Unit := if g.1.2 = .tc then {()} else ∅
/-- Barrier cells at 1, arrivals of partial sums at 2, arrivals of results at 3, the rest at 0. -/
def lv (g : GSem nD τ sig) (_ : Unit) : ℕ :=
  match decode g.2 with
  | some none => 1
  | some (some (.inr (.inr (1, _)))) => 2
  | some (some (.inr (.inr (3, _)))) => 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by dsimp only [lv]; rw [decode_bar]
theorem lv_rs (c : Dev nD) (s : Fin 7) : lv (ownC' c (exO 1 s)) () = 2 := by dsimp only [lv]; rw [decode_own]; rfl
theorem lv_ag (c : Dev nD) (s : Fin 7) : lv (ownC' c (exO 3 s)) () = 3 := by dsimp only [lv]; rw [decode_own]; rfl
theorem lv_ld (c : Dev nD) (i : Fin 3) : lv (ownC' c (ldO i)) () = 0 := by dsimp only [lv]; rw [decode_own]
theorem lv_kv (c : Dev nD) (k : Fin 2) (h : Fin 8) : lv (ownC' c (kvO k h)) () = 0 := by dsimp only [lv]; rw [decode_own]

/-- Everything owed lies above level `b`. -/
def Above (b : ℕ) (O : CellTallies nD τ sig Unit) : Prop := ∀ (g : GSem nD τ sig) (u : Unit), 0 < O g u → u ∈ L g ∧ b < lv g u

theorem Above.add {b : ℕ} {O O' : CellTallies nD τ sig Unit} (h : Above b O) (h' : Above b O') : Above b (O + O') := fun g u hg => by
  rw [Pi.add_apply, Finsupp.add_apply] at hg
  rcases Nat.add_pos_iff_pos_or_pos.mp hg with hg | hg
  · exact h g u hg
  · exact h' g u hg
theorem Above.at {b : ℕ} (c : Dev nD) (sm : SemLoc sig) (N : ℕ) (h : b < lv ((c : Thread nD τ), sm) ()) :
    Above b (tallyAt ((c : Thread nD τ), sm) () N) := fun g u hg => by
  rw [tallyAt_apply] at hg
  split at hg
  · next e => rw [e.1, L_tc]; exact ⟨Finset.mem_singleton_self _, h⟩
  · exact absurd hg (Nat.lt_irrefl 0)
theorem Above.zero (b : ℕ) : Above b 0 := fun g u hg => absurd hg (Nat.lt_irrefl 0)
theorem Above.sum {b : ℕ} {ι : Type} (S : Finset ι) (f : ι → CellTallies nD τ sig Unit) (h : ∀ s ∈ S, Above b (f s)) : Above b (∑ s ∈ S, f s) := by
  classical
  induction S using Finset.induction_on with
  | empty => rw [Finset.sum_empty]; exact Above.zero b
  | insert a S ha ih =>
    rw [Finset.sum_insert ha]
    exact (h a (Finset.mem_insert_self _ _)).add (ih fun s hs => h s (Finset.mem_insert_of_mem hs))

theorem above_bar (c : Dev nD) (k : ℕ) : Above 0 (barT c k) :=
  Above.sum _ _ fun s _ => Above.at _ _ _ (by rw [lv_bar]; decide)
theorem above_rs (c : Dev nD) (k : ℕ) : Above 1 (rsT c k) :=
  Above.sum _ _ fun s _ => Above.at _ _ _ (by rw [lv_rs]; decide)
theorem above_ag (c : Dev nD) (k : ℕ) : Above 2 (agT c k) :=
  Above.sum _ _ fun s _ => Above.at _ _ _ (by rw [lv_ag]; decide)
theorem Above.mono {b b' : ℕ} {O : CellTallies nD τ sig Unit} (h : Above b O) (hb : b' ≤ b) : Above b' O :=
  fun g u hg => ⟨(h g u hg).1, Nat.lt_of_le_of_lt hb (h g u hg).2⟩

/-- A wait at level at most `b` under what lies above `b`. -/
theorem mayWait (c : Dev nD) (sm : SemLoc sig) (b : ℕ) (O : CellTallies nD τ sig Unit) (hs : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## The ghost state -/

/-- Every cell's invariant, at the names the launch allocated. -/
def invs (K : GSem nD τ sig → ℕ) : sProp 𝕄 :=
  iprop(bigSep Finset.univ (fun c : Dev nD => cellInv ER (swaRd V) (K (barC c)) (barC c))
    ∗ bigSep Finset.univ (fun p : Dev nD × Own => cellInv ER (swaRd V) (K (ownC' p.1 p.2)) (ownC' p.1 p.2)))
/-- Round 0 of every barrier cell is reached, -/
def bars : sProp 𝕄 := bigSep Finset.univ (fun c : Dev nD => reached ER (barC c) 0)
/-- and, once the kernel has begun, of every own cell. -/
def reach (c : Dev nD) : sProp 𝕄 := bigSep Finset.univ (fun o : Own => reached ER (ownC' c o) 0)

instance invs_persistent (K : GSem nD τ sig → ℕ) : BI.Persistent (invs V K) := by unfold invs; infer_instance
instance bars_persistent : BI.Persistent (bars (F := F)) := by unfold bars; infer_instance
instance reach_persistent (c : Dev nD) : BI.Persistent (reach (F := F) c) := by unfold reach; infer_instance

/-- What every step of device `c`'s body may consult. -/
def Ctx (K : GSem nD τ sig → ℕ) (c : Dev nD) : sProp 𝕄 := iprop(invs V K ∗ levAts L lv ∗ bars (F := F) ∗ reach (F := F) c)
instance ctx_persistent (K : GSem nD τ sig → ℕ) (c : Dev nD) : BI.Persistent (Ctx V K c) := by unfold Ctx; infer_instance

theorem ctx_inv (K : GSem nD τ sig → ℕ) (c c' : Dev nD) (o : Own) : Ctx V K c ⊢ cellInv ER (swaRd V) (K (ownC' c' o)) (ownC' c' o) :=
  have h : invs V K ⊢ cellInv ER (swaRd V) (K (ownC' c' o)) (ownC' c' o) := sep_elim_right.trans
    (bigSep_elim (Φ := fun p : Dev nD × Own => cellInv ER (swaRd V) (K (ownC' p.1 p.2)) (ownC' p.1 p.2)) (Finset.mem_univ (c', o)))
  sep_elim_left.trans h
theorem ctx_invBar (K : GSem nD τ sig → ℕ) (c c' : Dev nD) : Ctx V K c ⊢ cellInv ER (swaRd V) (K (barC c')) (barC c') :=
  have h : invs V K ⊢ cellInv ER (swaRd V) (K (barC c')) (barC c') := sep_elim_left.trans
    (bigSep_elim (Φ := fun c : Dev nD => cellInv ER (swaRd V) (K (barC c)) (barC c)) (Finset.mem_univ c'))
  sep_elim_left.trans h
theorem ctx_lev (K : GSem nD τ sig → ℕ) (c : Dev nD) : Ctx V K c ⊢ levAts L lv := sep_elim_right.trans sep_elim_left
theorem ctx_bar (K : GSem nD τ sig → ℕ) (c c' : Dev nD) : Ctx V K c ⊢ reached ER (barC c') 0 :=
  (sep_elim_right.trans (sep_elim_right.trans sep_elim_left)).trans
    (show bars (F := F) ⊢ _ from bigSep_elim (Φ := fun c : Dev nD => reached ER (barC c) 0) (Finset.mem_univ c'))
theorem ctx_reach (K : GSem nD τ sig → ℕ) (c : Dev nD) (o : Own) : Ctx V K c ⊢ reached ER (ownC' c o) 0 :=
  (sep_elim_right.trans (sep_elim_right.trans sep_elim_right)).trans
    (show reach (F := F) c ⊢ _ from bigSep_elim (Φ := fun o : Own => reached ER (ownC' c o) 0) (Finset.mem_univ o))

abbrev 𝒱₀ : Variants := Variants.none

end Cert.KernelIdeal.Swa

end
-- ==== Proof.Swa.Moves.lean ====
/-
  The moves of the protocol, each in the form a run uses it: a load's transfer started, a transfer awaited, a peer
  signalled, the peers awaited, a transfer to a peer; and a step repeated at every head or every slot.
-/
module

public import proofs.«01_k».proof.Proof.Swa.Protocol
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F)) (K : GSem nD τ sig → ℕ)

/-- The weakest precondition of a program run by device `c`. -/
abbrev Wp {α : Type} (c : Dev nD) (p : P F α) (Q : α → sProp 𝕄) : sProp 𝕄 :=
  wp frame (wpE (defs₀ (F := F)) 𝒱₀ (c : Thread nD τ) none) Set.univ p Q

theorem Wp_bind {α β : Type} (c : Dev nD) (p : P F α) (k : α → P F β) (Q : β → sProp 𝕄) :
    Wp c p (fun a => Wp c (k a) Q) ⊢ Wp c (p >>= k) Q := Entails.of_eq (wp_bind _ _ _ _ _ _).symm
theorem Wp_pure {α : Type} (c : Dev nD) (a : α) (Q : α → sProp 𝕄) : Q a ⊢ Wp c (.ret a) Q := fupd_intro

/-! ## A step at every slot, at every head -/

theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A step that takes `todo s` and the state `I s` to `done s` and the state `I (s + 1)`, run at every slot. -/
theorem each7_wp (C : sProp 𝕄) [BI.Persistent C] (c : Dev nD) (f : Fin 7 → P F PUnit) (I : ℕ → sProp 𝕄) (todo done : Fin 7 → sProp 𝕄)
    (h : ∀ (s : Fin 7) (Q : PUnit → sProp 𝕄), iprop(C ∗ I s.val ∗ todo s ∗ (I (s.val + 1) ∗ done s -∗ Q ⟨⟩)) ⊢ Wp c (f s) Q)
    (Q : PUnit → sProp 𝕄) :
    iprop(C ∗ I 0 ∗ bigSep Finset.univ todo ∗ (I 7 ∗ bigSep Finset.univ done -∗ Q ⟨⟩)) ⊢ Wp c (each7 f) Q := by
  have h' : ∀ (s : Fin 7) (k : ℕ) (hk : s.val = k) (Q : PUnit → sProp 𝕄), iprop(C ∗ I k ∗ todo s ∗ (I (k + 1) ∗ done s -∗ Q ⟨⟩)) ⊢ Wp c (f s) Q :=
    fun s k hk => by subst hk; exact h s
  rw [sep7 todo, sep7 done]
  iintro ⟨#HC, HI, ⟨H0, H1, H2, H3, H4, H5, H6⟩, HQ⟩
  iapply (Wp_bind c)
  iapply (h' 0 0 rfl); isplitr; · iexact HC
  isplitl [HI]; · iexact HI
  isplitl [H0]; · iexact H0
  iintro ⟨HI, D0⟩
  iapply (Wp_bind c)
  iapply (h' 1 1 rfl); isplitr; · iexact HC
  isplitl [HI]; · iexact HI
  isplitl [H1]; · iexact H1
  iintro ⟨HI, D1⟩
  iapply (Wp_bind c)
  iapply (h' 2 2 rfl); isplitr; · iexact HC
  isplitl [HI]; · iexact HI
  isplitl [H2]; · iexact H2
  iintro ⟨HI, D2⟩
  iapply (Wp_bind c)
  iapply (h' 3 3 rfl); isplitr; · iexact HC
  isplitl [HI]; · iexact HI
  isplitl [H3]; · iexact H3
  iintro ⟨HI, D3⟩
  iapply (Wp_bind c)
  iapply (h' 4 4 rfl); isplitr; · iexact HC
  isplitl [HI]; · iexact HI
  isplitl [H4]; · iexact H4
  iintro ⟨HI, D4⟩
  iapply (Wp_bind c)
  iapply (h' 5 5 rfl); isplitr; · iexact HC
  isplitl [HI]; · iexact HI
  isplitl [H5]; · iexact H5
  iintro ⟨HI, D5⟩
  iapply (h' 6 6 rfl); isplitr; · iexact HC
  isplitl [HI]; · iexact HI
  isplitl [H6]; · iexact H6
  iintro ⟨HI, D6⟩
  iapply HQ
  isplitl [HI]; · iexact HI
  isplitl [D0]; · iexact D0
  isplitl [D1]; · iexact D1
  isplitl [D2]; · iexact D2
  isplitl [D3]; · iexact D3
  isplitl [D4]; · iexact D4
  isplitl [D5]; · iexact D5
  iexact D6

/-- The same at every head. -/
theorem each8_wp (C : sProp 𝕄) [BI.Persistent C] (c : Dev nD) (f : Fin 8 → P F PUnit) (I : sProp 𝕄) (todo done : Fin 8 → sProp 𝕄)
    (h : ∀ (s : Fin 8) (Q : PUnit → sProp 𝕄), iprop(C ∗ I ∗ todo s ∗ (I ∗ done s -∗ Q ⟨⟩)) ⊢ Wp c (f s) Q)
    (Q : PUnit → sProp 𝕄) :
    iprop(C ∗ I ∗ bigSep Finset.univ todo ∗ (I ∗ bigSep Finset.univ done -∗ Q ⟨⟩)) ⊢ Wp c (each8 f) Q := by
  rw [sep8 todo, sep8 done]
  iintro ⟨#HC, HI, ⟨H0, Hs⟩, HQ⟩
  iapply (Wp_bind c)
  iapply (h 0); isplitr; · iexact HC
  isplitl [HI]; · iexact HI
  isplitl [H0]; · iexact H0
  iintro ⟨HI, D0⟩
  iapply (each7_wp C c (fun s => f s.succ) (fun _ => I) (fun s => todo s.succ) (fun s => done s.succ) (fun s Q => h s.succ Q))
  isplitr; · iexact HC
  isplitl [HI]; · iexact HI
  isplitl [Hs]; · iapply (Entails.of_eq (sep7 (fun s => todo s.succ)).symm); iexact Hs
  iintro ⟨HI, Ds⟩
  iapply HQ
  isplitl [HI]; · iexact HI
  isplitl [D0]; · iexact D0
  iapply (Entails.of_eq (sep7 (fun s => done s.succ))); iexact Ds

/-! ## Waiting -/

/-- What device `c` owes, whatever it waited for before. -/
def ow (c : Dev nD) (O : CellTallies nD τ sig Unit) : sProp 𝕄 := iprop(∃ W, owes (c : Thread nD τ) O W)
/-- An own cell whose transfer is under way, -/
def fresh (c : Dev nD) (o : Own) : sProp 𝕄 := iprop(cred (tallyAt (ownC' c o) () (amt o)) ∗ atPos ER (ownC' c o) 0 ∅ 0)
/-- and one whose transfer has been awaited. -/
def used (c : Dev nD) (o : Own) : sProp 𝕄 := atPos ER (ownC' c o) (0 + 1) ∅ 0

/-- A wait on an own cell: its transfer is complete. -/
theorem wait_own (c : Dev nD) (o : Own) {sp sp' : Space} {s : Shape} {e : EltTy} {i : DmaSem sig}
    {src : Memref sig .tc sp s e} {dst : Memref sig .tc sp' s e} {hx : src.view.WordExact} {hy : dst.view.WordExact}
    {k : PUnit → P F PUnit} {Q : PUnit → sProp 𝕄} {b : ℕ} {O : CellTallies nD τ sig Unit}
    (hi : osem o = .dma i) (hN : dst.view.dmaCredit = amt o) (hb : lv (ownC' c o) () ≤ b) (hO : Above b O) :
    iprop(Ctx V K c ∗ ow (F := F) c O ∗ fresh (F := F) c o ∗ (ow (F := F) c O ∗ used (F := F) c o ∗ ownPay V c o -∗ Wp c (k ⟨⟩) Q))
      ⊢ Wp c (.op (.waitDma2 i src dst hx hy) k) Q := by
  have hx' := expect_own V c o
  have hr := rest_own V c o
  have hinv := ctx_inv V K c c o
  have hm := mayWait (F := F) c (osem o) b O hb hO
  unfold ow fresh used
  dsimp only [ownC'] at *
  rw [hi] at *
  iintro ⟨#HC, ⟨%W, HO⟩, ⟨Hc, Hat⟩, HQ⟩
  iapply (Rounds.wp_wait_rest_token 𝒱₀ ER (swaRd V) (c : Thread nD τ) none (κ := K ((c : Thread nD τ), .dma i))
      (wpE_waitDma2_eq (src := src) (dst := dst) 𝒱₀ (c : Thread nD τ) none Set.univ) (Set.mem_univ _) () (O := O) (W := W) (R := 0) (m := 0) (T := ∅)
      ((Nat.zero_add _).trans (hN.trans hx'.symm))) $$ [Hc HO Hat]
  · isplitr; · iapply hinv; iexact HC
    isplitl [Hc]; · rw [hN]; iexact Hc
    isplitl [HO]; · iexact HO
    isplitr; · iapply hm; iapply (ctx_lev V K c); iexact HC
    iexact Hat
  iintro ⟨HO, Hat, -, Hpay⟩
  iapply HQ
  isplitl [HO]; · iexists _; iexact HO
  isplitl [Hat]; · iexact Hat
  iapply (Entails.of_eq hr); iexact Hpay

/-! ## Starting a load -/

/-- A transfer into this device's own memory: its cell is under way. -/
theorem start_load (c : Dev nD) (o : Own) {sp sp' : Space} {s : Shape} {e : EltTy} {i : DmaSem sig}
    {src : Memref sig .tc sp s e} {dst : Memref sig .tc sp' s e} {hx : src.view.WordExact} {hy : dst.view.WordExact}
    {hz : DmaTarget.Typed (nD := nD) sp (.dma i) (.here dst : DmaTarget nD τ sig (.tc : Proc τ) sp' s e)} {k : PUnit → P F PUnit} {Q : PUnit → sProp 𝕄}
    (fs : Buf (Elt F) (src.view.loc (c : Thread nD τ))) (g : Buf (Elt F) (dst.view.loc (c : Thread nD τ)))
    (hi : osem o = .dma i) (hN : dst.view.dmaCredit = amt o) (hp : landed c src dst fs g ⊢ ownPay V c o)
    (hv : dst.view.read (Elt F) g = src.view.read (Elt F) fs) :
    iprop(Ctx V K c ∗ (src.view.loc (c : Thread nD τ) ↦[src.view.set]{fullShare} fs) ∗ (∃ fd, dst.view.loc (c : Thread nD τ) ↦[dst.view.set]{fullShare} fd)
        ∗ dutyTok ER (ownC' c o) 0 (0 : Fin 7) ∗ atPos ER (ownC' c o) 0 (∅ : Finset (Fin 7)) 0 ∗ (fresh (F := F) c o -∗ Wp c (k ⟨⟩) Q))
      ⊢ Wp c (.op (.enqueueDma src (.here dst) (.dma i) hx hy hz) k) Q := by
  have hd : (0 : Fin 7) ∈ (swaRd V).duties (ownC' c o) 0 := by rw [duties_own]; exact Finset.mem_singleton_self _
  have hk := amount_own V c o 0
  have hpay := payload_own V c o 0
  have hinv := ctx_inv V K c c o
  have hre := ctx_reach V K c o
  unfold fresh
  dsimp only [ownC'] at *
  rw [hi] at *
  iintro ⟨#HC, Hs, ⟨%fd, Hd⟩, Ht, Hat, HQ⟩
  iapply (Rounds.wp_copy_pointsTo 𝒱₀ ER (swaRd V) (c : Thread nD τ) none (src := src) (dst := dst) (sem := .dma i) (q := fullShare)
      (fs := fs) (fd := fd) (r := 0) (d := 0) (κ := K ((c : Thread nD τ), .dma i)) hd () (amt o) hN hk
      (by
        rw [hpay]
        refine .trans (sep_mono_left (Entails.of_eq (pointsTo_congr fun x hxm => ?_))) hp
        rw [← hv, View.write_read_eq_piecewise]
        exact Finset.piecewise_eq_of_mem _ _ _ hxm)) $$ [Hs Hd Ht]
  · isplitr; · iapply hinv; iexact HC
    isplitl [Hs]; · iexact Hs
    isplitl [Hd]; · iexact Hd
    isplitl [Ht]; · iexact Ht
    iapply hre; iexact HC
  iintro Hc
  iapply HQ
  isplitl [Hc] <;> iassumption

/-! ## Sending -/

/-- A transfer into slot memory of a peer: this device's departure cell is under way, and what it owed the peer is paid. -/
theorem send_own (c c' : Dev nD) {d : Dev nD} (hd : d = c') (o₁ o₂ : Own) {sp sp' : Space} {s : Shape} {e : EltTy} {i₁ i₂ : DmaSem sig}
    {src : Memref sig .tc sp s e} {dst : Memref sig .tc sp' s e} {hsc : dst.view.ref.isScScratch = false} {hx : src.view.WordExact} {hy : dst.view.WordExact}
    {hz : DmaTarget.Typed (nD := nD) sp (.dma i₂) (.remote (Dev.tc d) dst (.dma i₁) hsc : DmaTarget nD τ sig (.tc : Proc τ) sp' s e)} {k : PUnit → P F PUnit} {Q : PUnit → sProp 𝕄}
    (q : PosShare TreeShare) (fs : Buf (Elt F) (src.view.loc (c : Thread nD τ))) (g : Buf (Elt F) (dst.view.loc (c' : Thread nD τ)))
    (h₁ : osem o₁ = .dma i₁) (h₂ : osem o₂ = .dma i₂) (hN : dst.view.dmaCredit = N7) (hk₁ : amt o₁ = N7) (hk₂ : amt o₂ = N7)
    (hp₁ : (src.view.loc (c : Thread nD τ) ↦[src.view.set]{q} fs) ⊢ ownPay V c o₁)
    (hp₂ : (dst.view.loc (c' : Thread nD τ) ↦[dst.view.set]{fullShare} g) ⊢ ownPay V c' o₂)
    (hv : dst.view.read (Elt F) g = src.view.read (Elt F) fs) (O : CellTallies nD τ sig Unit) :
    iprop(Ctx V K c ∗ (src.view.loc (c : Thread nD τ) ↦[src.view.set]{q} fs) ∗ (∃ fd, dst.view.loc (c' : Thread nD τ) ↦[dst.view.set]{fullShare} fd)
        ∗ dutyTok ER (ownC' c o₁) 0 (0 : Fin 7) ∗ atPos ER (ownC' c o₁) 0 (∅ : Finset (Fin 7)) 0
        ∗ dutyTok ER (ownC' c' o₂) 0 (0 : Fin 7) ∗ reached ER (ownC' c' o₂) 0 ∗ ow (F := F) c (O + tallyAt (ownC' c' o₂) () N7)
        ∗ (ow (F := F) c O ∗ fresh (F := F) c o₁ -∗ Wp c (k ⟨⟩) Q))
      ⊢ Wp c (.op (.enqueueDma src (.remote (Dev.tc d) dst (.dma i₁) hsc) (.dma i₂) hx hy hz) k) Q := by
  obtain rfl := hd.symm
  have hd₁ : (0 : Fin 7) ∈ (swaRd V).duties (ownC' c o₁) 0 := by rw [duties_own]; exact Finset.mem_singleton_self _
  have hd₂ : (0 : Fin 7) ∈ (swaRd V).duties (ownC' c' o₂) 0 := by rw [duties_own]; exact Finset.mem_singleton_self _
  have ha₁ := (amount_own V c o₁ 0).trans hk₁
  have ha₂ := (amount_own V c' o₂ 0).trans hk₂
  have hpay₁ := payload_own V c o₁ 0
  have hpay₂ := payload_own V c' o₂ 0
  have hinv₁ := ctx_inv V K c c o₁
  have hinv₂ := ctx_inv V K c c' o₂
  have hre := ctx_reach V K c o₁
  unfold fresh ow
  rw [hk₁]
  dsimp only [ownC'] at *
  rw [h₁] at *
  rw [h₂] at *
  iintro ⟨#HC, Hs, ⟨%fd, Hd⟩, Ht₁, Hat, Ht₂, #Hr, ⟨%W, HO⟩, HQ⟩
  iapply (Rounds.wp_send_pointsTo 𝒱₀ ER (swaRd V) (c : Thread nD τ) none (c' := (c' : Thread nD τ)) (src := src) (dst := dst)
      (sS := .dma i₁) (sem := .dma i₂) (q := q) (fs := fs) (κ₁ := K ((c : Thread nD τ), .dma i₁)) (κ₂ := K ((c' : Thread nD τ), .dma i₂))
      (r₁ := 0) (r₂ := 0) (d₁ := 0) (d₂ := 0) (fd := fd) hd₁ hd₂ () () N7 hN ha₁ ha₂ O rfl (W := W)
      (by rw [hpay₁]; exact hp₁)
      (by
        rw [hpay₂]
        refine .trans (Entails.of_eq (pointsTo_congr fun x hxm => ?_)) hp₂
        rw [← hv, View.write_read_eq_piecewise]
        exact Finset.piecewise_eq_of_mem _ _ _ hxm)) $$ [Hs Hd HO Ht₁ Ht₂]
  · isplitr; · iapply hinv₁; iexact HC
    isplitr; · iapply hinv₂; iexact HC
    isplitl [Hs]; · iexact Hs
    isplitl [Hd]; · iexact Hd
    isplitl [HO]; · iexact HO
    isplitl [Ht₁]; · iexact Ht₁
    isplitr; · iapply hre; iexact HC
    isplitl [Ht₂]; · iexact Ht₂
    iexact Hr
  iintro ⟨Hc, HO⟩
  iapply HQ
  isplitl [HO]; · iexists _; iexact HO
  isplitl [Hc] <;> iassumption

/-! ## The barrier -/

/-- Slots `s` of the two receive buffers of device `c`, empty. -/
def slotsOf (c : Dev nD) (s : Fin 7) : sProp 𝕄 := iprop((∃ f, slotPts (F := F) rsM c s f) ∗ (∃ f, slotPts (F := F) agM c s f))

/-- The peer `s + 1` places after is told, and handed the slots it will fill. -/
theorem signal_peer (c : Dev nD) (s : Fin 7) {k : PUnit → P F PUnit} {Q : PUnit → sProp 𝕄} (O : CellTallies nD τ sig Unit) :
    iprop(Ctx V K c ∗ slotsOf (F := F) c s.rev ∗ dutyTok ER (barC (fwd c s)) 0 s.rev ∗ ow (F := F) c (O + tallyAt (barC (fwd c s)) () 1)
        ∗ (ow (F := F) c O -∗ Wp c (k ⟨⟩) Q))
      ⊢ Wp c (.op (.semSignal ((barDev c s : Dev nD) : Thread nD τ) barSem (1#32 : BitVec 32).toInt) k) Q := by
  rw [barDev_eq]
  unfold ow slotsOf
  iintro ⟨#HC, ⟨Hs₁, Hs₂⟩, Ht, ⟨%W, HO⟩, HQ⟩
  iapply (Rounds.wp_signal 𝒱₀ ER (swaRd V) (c : Thread nD τ) none (dst := ((fwd c s : Dev nD) : Thread nD τ)) (sem := barSem) (r := 0) (d := s.rev)
      (κ := K (barC (fwd c s))) (by rw [duties_bar]; exact Finset.mem_univ _) ((amount_bar V (fwd c s) s.rev).trans (by decide)) () O rfl (W := W))
    $$ [HO Ht Hs₁ Hs₂]
  · isplitr; · iapply (ctx_invBar V K c (fwd c s)); iexact HC
    isplitl [HO]; · iexact HO
    isplitl [Ht]; · iexact Ht
    isplitl [Hs₁ Hs₂]
    · rw [payload_bar]; unfold barPay; rw [fwd_rev]
      isplitl [Hs₁]; · iexact Hs₁
      isplitl [Hs₂]; · iexact Hs₂
      isplitr; · iapply (ctx_reach V K c (exO 1 s.rev)); iexact HC
      iapply (ctx_reach V K c (exO 3 s.rev)); iexact HC
    · iapply (ctx_bar V K c (fwd c s)); iexact HC
  iintro HO
  iapply HQ
  iexists _; iexact HO

/-- Every peer has begun: what each handed over. -/
theorem wait_bar (c : Dev nD) {k : PUnit → P F PUnit} {Q : PUnit → sProp 𝕄} (O : CellTallies nD τ sig Unit) (hO : Above 1 O) :
    iprop(Ctx V K c ∗ ow (F := F) c O ∗ cred (tallyAt (barC c) () 7) ∗ atPos ER (barC c) 0 (∅ : Finset (Fin 7)) 0
        ∗ (ow (F := F) c O ∗ atPos ER (barC c) (0 + 1) (∅ : Finset (Fin 7)) 0 ∗ bigSep Finset.univ (barPay (F := F) c) -∗ Wp c (k ⟨⟩) Q))
      ⊢ Wp c (.op (.semWait barSem (7#32 : BitVec 32).toInt) k) Q := by
  unfold ow
  iintro ⟨#HC, ⟨%W, HO⟩, Hc, Hat, HQ⟩
  iapply (Rounds.wp_wait_rest_token 𝒱₀ ER (swaRd V) (c : Thread nD τ) none (κ := K (barC c))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (ctx_invBar V K c c); iexact HC
    isplitl [Hc]; · iexact Hc
    isplitl [HO]; · iexact HO
    isplitr; · iapply (mayWait (F := F) c (.reg barSem) 1 O (by rw [lv_bar]) hO); iapply (ctx_lev V K c); iexact HC
    iexact Hat
  iintro ⟨HO, Hat, -, Hpay⟩
  iapply HQ
  isplitl [HO]; · iexists _; iexact HO
  isplitl [Hat]; · iexact Hat
  iapply (Entails.of_eq (rest_bar V c)); iexact Hpay

end Cert.KernelIdeal.Swa

end
-- ==== Proof.Swa.Steps.lean ====
/-
  The steps that compute: each is given what it reads and leaves what it wrote at the contents `Values.lean` names.
-/
module

public import proofs.«01_k».proof.Proof.Swa.Moves
public import proofs.«01_k».proof.Proof.Gen.KernelIdeal.Launch
public import Idealize.ShloMosaic.Lib.Rounds
public import Idealize.ShloMosaic.Lib.Ring
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F)) (K : GSem nD τ sig → ℕ)

/-- Elements `S` of a memref's buffer on device `c`, at contents `f`. -/
abbrev pts {sp : Space} {s : Shape} {e : EltTy} (c : Dev nD) (m : Memref sig .tc sp s e) (S : Finset (Idx (m.view.loc (c : Thread nD τ))))
    (f : Buf (Elt F) (m.view.loc (c : Thread nD τ))) : sProp 𝕄 :=
  m.view.loc (c : Thread nD τ) ↦[S]{fullShare} f

/-! ## The pieces' element sets -/

theorem setOn_whole (b : Ref sig .tc) (M : Finset b.ty.shape.Idx) : (Memref.whole b).view.setOn M = M := by
  ext i
  constructor
  · intro h
    obtain ⟨x, hx, rfl⟩ := Finset.mem_map.mp h
    exact hx
  · exact fun h => Finset.mem_map.mpr ⟨i, h, rfl⟩
theorem set_acc (b : Ref sig .tc) (r : Rect b.ty.shape) : ((Memref.whole b).access r).set = r.set := View.set_slice_whole b r
theorem set_kM (h : Fin 8) : (headDst kM h).view.set = (slabRect h).set := (Memref.set_view_squeeze _ _).trans (View.set_slice_whole cc0_scratch5 (slabRect h))
theorem set_vM (h : Fin 8) : (headDst vM h).view.set = (slabRect h).set := (Memref.set_view_squeeze _ _).trans (View.set_slice_whole cc0_scratch6 (slabRect h))
theorem set_sendM (s : Fin 7) : (slotM sendM s).view.set = (slotRect s).set := (Memref.set_view_squeeze _ _).trans (View.set_slice_whole cc0_scratch8 (slotRect s))
theorem set_rsM (s : Fin 7) : (slotM rsM s).view.set = (slotRect s).set := (Memref.set_view_squeeze _ _).trans (View.set_slice_whole cc0_scratch9 (slotRect s))
theorem set_agM (s : Fin 7) : (slotM agM s).view.set = (slotRect s).set := (Memref.set_view_squeeze _ _).trans (View.set_slice_whole cc0_scratch11 (slotRect s))

theorem kvOff_head (h : Fin 8) (c : Dev nD) (j : BitVec 32) : kvOff h c j 0 = h.val := by
  fin_cases h <;> rfl
/-- A block's key window lies in its head's slab. -/
theorem kv_sub (c : Dev nD) (j h : Fin 8) : (kvRect c j h).set ⊆ (slabRect h).set := fun i hi => by
  have h0 := (Rect.mem_set_unit.mp hi) 0
  rw [kvOff_head] at h0
  exact (slab_mem h i).mpr (Fin.ext (show (i 0).val = h.val by
    have h1 : (i 0).val < h.val + 1 := h0.2
    have h2 : h.val ≤ (i 0).val := h0.1
    omega))

section Pieces

variable {ℓ : Loc nD τ sig} {κ : Type} [Fintype κ] [DecidableEq κ] {I : κ → Finset (Idx ℓ)} (key : Idx ℓ → κ)

/-- A buffer cut by a key is its pieces. -/
theorem pieces (h : ∀ j i, i ∈ I j ↔ key i = j) (f : Buf (Elt F) ℓ) :
    (ℓ ↦{fullShare} f : sProp 𝕄) = bigSep Finset.univ fun j : κ => ℓ ↦[I j]{fullShare} f :=
  Ring.pointsTo_blocks I (fun b b' hb => disj_of_key I key h b b' hb) (cover_of_key I key h) f
/-- Pieces at contents of their own are the buffer at some contents. -/
theorem pieces_join (h : ∀ j i, i ∈ I j ↔ key i = j) (f₀ : Buf (Elt F) ℓ) :
    (bigSep Finset.univ fun j : κ => iprop(∃ f : Buf (Elt F) ℓ, ℓ ↦[I j]{fullShare} f)) ⊢ (iprop(∃ f, ℓ ↦{fullShare} f) : sProp 𝕄) :=
  Ring.pointsTo_blocks_join_exists I (fun b b' hb => disj_of_key I key h b b' hb) (cover_of_key I key h) f₀

end Pieces

theorem fullB_set : fullB.set = Finset.univ := Finset.eq_univ_iff_forall.mpr fun i => Rect.mem_set_unit.mpr fun a =>
  ⟨by fin_cases a <;> exact Nat.zero_le _, by have := (i a).isLt; fin_cases a <;> exact (Nat.lt_of_lt_of_eq this (Nat.zero_add _).symm)⟩
theorem fullW_set : fullW.set = Finset.univ := Finset.eq_univ_iff_forall.mpr fun i => Rect.mem_set_unit.mpr fun a =>
  ⟨by fin_cases a <;> exact Nat.zero_le _, by have := (i a).isLt; fin_cases a <;> exact (Nat.lt_of_lt_of_eq this (Nat.zero_add _).symm)⟩

/-! ## Loads and stores -/

section Access

variable (c : Dev nD) {cs : CoreSpace} {s : Shape} {e : EltTy} {m : Memref sig .tc cs s e}

theorem load_at {α : Type} {Q : α → sProp 𝕄} {r : LoadRect s} {hl : m.view.LoadsAt r} {k : (r.shape.Idx → Elt F e) → P F α} {S : Finset (Idx (m.view.loc (c : Thread nD τ)))}
    {f : Buf (Elt F) (m.view.loc (c : Thread nD τ))} (hS : m.view.setOn r.set ⊆ S) :
    iprop(pts c m S f ∗ (pts c m S f -∗ Wp c (k (m.view.readAt (Elt F) r f)) Q)) ⊢ Wp c (.op (.load m r hl) k) Q := by
  iintro ⟨H, HQ⟩
  iapply (wp_load 𝒱₀ (c : Thread nD τ) none Set.univ hS) $$ H
  iexact HQ

/-- A store of what the contents `g` hold there leaves the rectangle at `g`. -/
theorem store_at {α : Type} {Q : α → sProp 𝕄} {r : Rect s} {w : r.shape.Idx → Elt F e} {hx : (m.access r).Stores Finset.univ} {hm} {k : PUnit → P F α}
    {f : Buf (Elt F) (m.view.loc (c : Thread nD τ))} (g : Buf (Elt F) (m.view.loc (c : Thread nD τ))) {S : Finset (Idx (m.view.loc (c : Thread nD τ)))}
    (hS : (m.access r).set = S) (hw : (m.access r).read (Elt F) g = w) :
    iprop(pts c m S f ∗ (pts c m S g -∗ Wp c (k ⟨⟩) Q)) ⊢ Wp c (.op (.store m r w Finset.univ hx hm) k) Q := by
  subst hS
  iintro ⟨H, HQ⟩
  iapply (wp_store 𝒱₀ (c : Thread nD τ) none Set.univ (m := m) (r := r) (w := w) (Mk := Finset.univ) (S := (m.access r).set) (f := f)
      (Finset.Subset.refl _)) $$ H
  iintro H
  iapply HQ
  iapply (Entails.of_eq (pointsTo_congr (f := (m.access r).write (Elt F) f w Finset.univ) (g := g) fun x hxm => by
    rw [← hw, View.write_read_eq_piecewise]
    exact Finset.piecewise_eq_of_mem _ _ _ hxm))
  iexact H

end Access

theorem full_off : (![0, 0] : Fin 2 → Nat) = fun _ => 0 := by funext i; fin_cases i <;> rfl

/-! ## Queries, heads, projection -/

/-- The whole of a buffer. -/
abbrev all {sp : Space} {s : Shape} {e : EltTy} (c : Dev nD) (m : Memref sig .tc sp s e) (f : Buf (Elt F) (m.view.loc (c : Thread nD τ))) : sProp 𝕄 :=
  pts c m Finset.univ f

theorem queries_wp (c : Dev nD) (j : Fin 8) (Q : FVec F S256x1024 .f32 → sProp 𝕄) :
    iprop(all c xM (xC V c) ∗ all c wqbM (wqbC V c) ∗ (all c xM (xC V c) ∗ all c wqbM (wqbC V c) -∗ Q (qV V c j))) ⊢ Wp c (queries c j) Q := by
  unfold queries qV
  simp only [Prog.lift, Prog.bind_op, Prog.bind_ret]
  iintro ⟨Hx, Hw, HQ⟩
  iapply (load_at c (m := xM) (Finset.subset_univ _)); isplitl [Hx]; · iexact Hx
  iintro Hx
  iapply (load_at c (m := wqbM) (Finset.subset_univ _)); isplitl [Hw]; · iexact Hw
  iintro Hw
  iapply (Wp_pure c)
  rw [show wqbM.view.readAt (Elt F) fullW.toLoadRect (wqbC V c) = wqbC V c from Memref.readAt_unit_zero (Elt F) cc0_scratch3 full_off _ _]
  iapply HQ
  isplitl [Hx] <;> iassumption

/-- Head `h`'s slab of the keys, of the values; its columns of the context, at any contents and at block `j`'s. -/
abbrev kP (c : Dev nD) (h : Fin 8) : sProp 𝕄 := pts c (headDst kM h) (headDst kM h).view.set (kC V c)
abbrev vP (c : Dev nD) (h : Fin 8) : sProp 𝕄 := pts c (headDst vM h) (headDst vM h).view.set (vC V c)
abbrev ctxE (c : Dev nD) (h : Fin 8) : sProp 𝕄 := iprop(∃ f, pts (F := F) c ctxM (ctxM.access (ctxRect h)).set f)
abbrev ctxP (c : Dev nD) (j h : Fin 8) : sProp 𝕄 := pts c ctxM (ctxM.access (ctxRect h)).set (ctxC V c j)

theorem headStep_wp (c : Dev nD) (j h : Fin 8) (Q : PUnit → sProp 𝕄) :
    iprop(kP V c h ∗ vP V c h ∗ ctxE c h ∗ (kP V c h ∗ vP V c h ∗ ctxP V c j h -∗ Q ⟨⟩)) ⊢ Wp c (headStep c j (qV V c j) h) Q := by
  unfold headStep
  simp only [Prog.lift, Prog.bind_op, Prog.bind_ret]
  iintro ⟨Hk, Hv, ⟨%f, Hc⟩, HQ⟩
  iapply (load_at c (m := kM) (S := (headDst kM h).view.set) (by rw [setOn_whole, set_kM]; exact kv_sub c j h)); isplitl [Hk]; · iexact Hk
  iintro Hk
  iapply (load_at c (m := vM) (S := (headDst vM h).view.set) (by rw [setOn_whole, set_vM]; exact kv_sub c j h)); isplitl [Hv]; · iexact Hv
  iintro Hv
  iapply (load_at c (m := ctxM) (S := (ctxM.access (ctxRect h)).set) (by rw [setOn_whole, set_acc])); isplitl [Hc]; · iexact Hc
  iintro Hc
  iapply (store_at c (m := ctxM) (r := ctxRect h) (ctxC V c j) rfl (read_ctx (hV V c j) h)); isplitl [Hc]; · iexact Hc
  iintro Hc
  iapply (Wp_pure c)
  iapply HQ
  isplitl [Hk]; · iexact Hk
  isplitl [Hv]; · iexact Hv
  iexact Hc

/-- The context's eight columns are the whole context buffer. -/
theorem ctx_cols (c : Dev nD) (f : Buf (Elt F) (ctxM.view.loc (c : Thread nD τ))) :
    all c ctxM f = bigSep Finset.univ fun h : Fin 8 => pts c ctxM (ctxM.access (ctxRect h)).set f :=
  pieces (ℓ := ctxM.view.loc (c : Thread nD τ)) ctxKey (fun h i => by rw [set_acc]; exact ctx_mem h i) f

/-- Block `(c + j) % 8` of the output's rows. -/
abbrev outPts (c : Dev nD) (j : Fin 8) (f : Buf (Elt F) (outM.view.loc (c : Thread nD τ))) : sProp 𝕄 := pts c outM (outM.access (outRect c j)).set f

theorem project_wp (c : Dev nD) (j : Fin 8) (Q : FVec F S256x1024 .f32 → sProp 𝕄) :
    iprop(bigSep Finset.univ (ctxP V c j) ∗ all c wobM (wobC V c) ∗ (∃ f, outPts (F := F) c j f)
        ∗ (bigSep Finset.univ (ctxP V c j) ∗ all c wobM (wobC V c) ∗ outPts c j (ownC V c) -∗ Q (pV V c j))) ⊢ Wp c (project c j) Q := by
  rw [show (bigSep Finset.univ (ctxP V c j)) = all c ctxM (ctxC V c j) from (ctx_cols c (ctxC V c j)).symm]
  unfold project pV
  simp only [Prog.lift, Prog.bind_op, Prog.bind_ret]
  iintro ⟨Hc, Hw, ⟨%f, Ho⟩, HQ⟩
  iapply (load_at c (m := ctxM) (Finset.subset_univ _)); isplitl [Hc]; · iexact Hc
  iintro Hc
  iapply (load_at c (m := wobM) (Finset.subset_univ _)); isplitl [Hw]; · iexact Hw
  iintro Hw
  rw [show wobM.view.readAt (Elt F) fullW.toLoadRect (wobC V c) = wobC V c from Memref.readAt_unit_zero (Elt F) cc0_scratch4 full_off _ _,
    show ctxM.view.readAt (Elt F) fullB.toLoadRect (ctxC V c j) = ctxC V c j from Memref.readAt_unit_zero (Elt F) cc0_scratch7 full_off _ _]
  iapply (load_at c (m := outM) (S := (outM.access (outRect c j)).set) (by rw [setOn_whole, set_acc])); isplitl [Ho]; · iexact Ho
  iintro Ho
  iapply (store_at c (m := outM) (r := outRect c j) (ownC V c) rfl (read_out c _ j)); isplitl [Ho]; · iexact Ho
  iintro Ho
  iapply (Wp_pure c)
  iapply HQ
  isplitl [Hc]; · iexact Hc
  isplitl [Hw] <;> iassumption

/-- Eight heads of block `j`. -/
theorem heads_wp (c : Dev nD) (j : Fin 8) (Q : PUnit → sProp 𝕄) :
    iprop(bigSep Finset.univ (kP V c) ∗ bigSep Finset.univ (vP V c) ∗ bigSep Finset.univ (ctxE (F := F) c)
        ∗ (bigSep Finset.univ (kP V c) ∗ bigSep Finset.univ (vP V c) ∗ bigSep Finset.univ (ctxP V c j) -∗ Q ⟨⟩))
      ⊢ Wp c (each8 (headStep c j (qV V c j))) Q := by
  iintro ⟨Hk, Hv, Hc, HQ⟩
  iapply (each8_wp iprop(emp) c _ iprop(emp) (fun h => iprop(kP V c h ∗ vP V c h ∗ ctxE c h)) (fun h => iprop(kP V c h ∗ vP V c h ∗ ctxP V c j h))
    (fun h Q => by
      iintro ⟨-, -, ⟨Hk, Hv, Hc⟩, HQ⟩
      iapply (headStep_wp V c j h)
      isplitl [Hk]; · iexact Hk
      isplitl [Hv]; · iexact Hv
      isplitl [Hc]; · iexact Hc
      iintro H
      iapply HQ
      isplitr; · iempintro
      iexact H))
  isplitr; · iempintro
  isplitr; · iempintro
  isplitl [Hk Hv Hc]
  · rw [bigSep_sep', bigSep_sep']
    isplitl [Hk]; · iexact Hk
    isplitl [Hv] <;> iassumption
  iintro ⟨-, H⟩
  iapply HQ
  iapply (Entails.of_eq ((bigSep_sep' _ _ _).trans (congrArg _ (bigSep_sep' _ _ _)))); iexact H

/-! ## The sum -/

theorem startAcc_wp (c : Dev nD) (Q : PUnit → sProp 𝕄) :
    iprop(outPts c 0 (ownC V c) ∗ (∃ f, all (F := F) c accM f) ∗ (outPts c 0 (ownC V c) ∗ all c accM (accV V c 0) -∗ Q ⟨⟩)) ⊢ Wp c (startAcc c) Q := by
  unfold startAcc
  simp only [Prog.lift, Prog.bind_op, Prog.bind_ret]
  iintro ⟨Ho, ⟨%f, Ha⟩, HQ⟩
  iapply (load_at c (m := outM) (S := (outM.access (outRect c 0)).set) (by rw [setOn_whole, set_acc, ← outMe_set])); isplitl [Ho]; · iexact Ho
  iintro Ho
  rw [show outM.view.readAt (Elt F) (outRectMe c).toLoadRect (ownC V c) = shapeCast S1x256x1024 (pV V c 0) shapeCasts_S256x1024_S1x256x1024 from
    (read_outMe c (ownC V c)).trans (read_out c _ 0)]
  iapply (load_at c (m := accM) (Finset.subset_univ _)); isplitl [Ha]; · iexact Ha
  iintro Ha
  iapply (store_at c (m := accM) (r := fullB) (accV V c 0) (S := Finset.univ) (by rw [set_acc, fullB_set])
    (Memref.read_access_unit_zero (Elt F) cc0_scratch12 full_off _ _)); isplitl [Ha]; · iexact Ha
  iintro Ha
  iapply (Wp_pure c)
  iapply HQ
  isplitl [Ho] <;> iassumption

theorem storeSum_wp (c : Dev nD) (Q : PUnit → sProp 𝕄) :
    iprop(all c accM (sumV V c) ∗ (∃ f, outPts (F := F) c 0 f) ∗ (∃ f, all (F := F) c redM f)
        ∗ (all c accM (sumV V c) ∗ outPts c 0 (outC V c) ∗ all c redM (redC V c) -∗ Q ⟨⟩)) ⊢ Wp c (storeSum c) Q := by
  unfold storeSum
  simp only [Prog.lift, Prog.bind_op, Prog.bind_ret]
  iintro ⟨Ha, ⟨%f, Ho⟩, ⟨%g, Hr⟩, HQ⟩
  iapply (load_at c (m := accM) (Finset.subset_univ _)); isplitl [Ha]; · iexact Ha
  iintro Ha
  rw [show accM.view.readAt (Elt F) fullB.toLoadRect (sumV V c) = sumV V c from Memref.readAt_unit_zero (Elt F) cc0_scratch12 full_off _ _]
  iapply (load_at c (m := outM) (S := (outM.access (outRect c 0)).set) (by rw [setOn_whole, set_acc, ← outMe_set])); isplitl [Ho]; · iexact Ho
  iintro Ho
  iapply (store_at c (m := outM) (r := outRectMe c) (outC V c) (S := (outM.access (outRect c 0)).set) (by rw [set_acc, set_acc, outMe_set])
    ((read_outMe c (outC V c)).trans (read_out c _ 0))); isplitl [Ho]; · iexact Ho
  iintro Ho
  iapply (load_at c (m := accM) (Finset.subset_univ _)); isplitl [Ha]; · iexact Ha
  iintro Ha
  rw [show accM.view.readAt (Elt F) fullB.toLoadRect (sumV V c) = sumV V c from Memref.readAt_unit_zero (Elt F) cc0_scratch12 full_off _ _]
  iapply (load_at c (m := redM) (Finset.subset_univ _)); isplitl [Hr]; · iexact Hr
  iintro Hr
  iapply (store_at c (m := redM) (r := fullB) (redC V c) (S := Finset.univ) (by rw [set_acc, fullB_set])
    (Memref.read_access_unit_zero (Elt F) cc0_scratch10 full_off _ _)); isplitl [Hr]; · iexact Hr
  iintro Hr
  iapply (Wp_pure c)
  iapply HQ
  isplitl [Ha]; · iexact Ha
  isplitl [Ho] <;> iassumption

end Cert.KernelIdeal.Swa

end
-- ==== Proof.Swa.Talk.lean ====
/-
  The steps that talk: loads started and awaited, the barrier, the partial sums and the results sent and received.
-/
module

public import proofs.«01_k».proof.Proof.Swa.Steps
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F)) (K : GSem nD τ sig → ℕ)

/-- An own cell not used yet: the right to start its transfer. -/
def idle (c : Dev nD) (o : Own) : sProp 𝕄 := iprop(dutyTok ER (ownC' c o) 0 (0 : Fin 7) ∗ atPos ER (ownC' c o) 0 (∅ : Finset (Fin 7)) 0)

/-- A transfer's source, and its destination at any contents. -/
abbrev srcP {sp : Space} {s : Shape} {e : EltTy} (c : Dev nD) (m : Memref sig .tc sp s e) (f : Buf (Elt F) (m.view.loc (c : Thread nD τ))) : sProp 𝕄 :=
  pts c m m.view.set f
abbrev dstE {sp : Space} {s : Shape} {e : EltTy} (c : Dev nD) (m : Memref sig .tc sp s e) : sProp 𝕄 := iprop(∃ f, pts (F := F) c m m.view.set f)

/-! ## The loads -/

/-- What the loads of head `h` start from, -/
def headTodo (c : Dev nD) (h : Fin 8) : sProp 𝕄 :=
  iprop((srcP c (headSrc kH h) (V c main_v2) ∗ dstE (F := F) c (headDst kM h) ∗ idle (F := F) c (kvO 0 h))
    ∗ (srcP c (headSrc vH h) (V c main_v4) ∗ dstE (F := F) c (headDst vM h) ∗ idle (F := F) c (kvO 1 h)))
/-- and what they are while under way. -/
def headFresh (c : Dev nD) (h : Fin 8) : sProp 𝕄 := iprop(fresh (F := F) c (kvO 0 h) ∗ fresh (F := F) c (kvO 1 h))

theorem startHeads_wp (c : Dev nD) (h : Fin 8) (Q : PUnit → sProp 𝕄) :
    iprop(Ctx V K c ∗ emp ∗ headTodo V c h ∗ (emp ∗ headFresh (F := F) c h -∗ Q ⟨⟩))
      ⊢ Wp c (do
          startHead kH (Memref.isWhole_whole _) kM (Memref.isWhole_whole _) h (kIx h)
          startHead vH (Memref.isWhole_whole _) vM (Memref.isWhole_whole _) h (vIx h)) Q := by
  unfold startHead headTodo headFresh idle
  simp only [Prog.lift, Prog.bind_op, Prog.bind_ret]
  iintro ⟨#HC, -, ⟨⟨Hks, Hkd, Hkt, Hka⟩, ⟨Hvs, Hvd, Hvt, Hva⟩⟩, HQ⟩
  iapply (start_load V K c (kvO 0 h) (src := headSrc kH h) (dst := headDst kM h) (V c main_v2) (kC V c) rfl rfl (Entails.of_eq rfl) (read_kM V c h))
  isplitr; · iexact HC
  isplitl [Hks]; · iexact Hks
  isplitl [Hkd]; · iexact Hkd
  isplitl [Hkt]; · iexact Hkt
  isplitl [Hka]; · iexact Hka
  iintro Hk
  iapply (start_load V K c (kvO 1 h) (src := headSrc vH h) (dst := headDst vM h) (V c main_v4) (vC V c) rfl rfl (Entails.of_eq rfl) (read_vM V c h))
  isplitr; · iexact HC
  isplitl [Hvs]; · iexact Hvs
  isplitl [Hvd]; · iexact Hvd
  isplitl [Hvt]; · iexact Hvt
  isplitl [Hva]; · iexact Hva
  iintro Hv
  iapply (Wp_pure c)
  iapply HQ
  isplitr; · iempintro
  isplitl [Hk] <;> iassumption

/-- What the loads of `x`, `Wq` and `Wo` start from. -/
def ldTodo (c : Dev nD) : sProp 𝕄 :=
  iprop((srcP c xSrc (V c main_arg0) ∗ dstE (F := F) c xM ∗ idle (F := F) c (ldO 0))
    ∗ (srcP c (wqSrc c) (V c main_arg1) ∗ dstE (F := F) c wqM ∗ idle (F := F) c (ldO 1))
    ∗ (srcP c (woSrc c) (V c main_arg4) ∗ dstE (F := F) c woM ∗ idle (F := F) c (ldO 2)))

theorem startLoads_wp (c : Dev nD) (Q : PUnit → sProp 𝕄) :
    iprop(Ctx V K c ∗ ldTodo V c ∗ bigSep Finset.univ (headTodo V c)
        ∗ (fresh (F := F) c (ldO 0) ∗ fresh (F := F) c (ldO 1) ∗ fresh (F := F) c (ldO 2) ∗ bigSep Finset.univ (headFresh (F := F) c) -∗ Q ⟨⟩))
      ⊢ Wp c (startLoads c) Q := by
  unfold startLoads ldTodo idle
  simp only [Prog.lift, Prog.bind_op, Prog.bind_ret]
  iintro ⟨#HC, ⟨⟨Hxs, Hxd, Hxt, Hxa⟩, ⟨Hqs, Hqd, Hqt, Hqa⟩, ⟨Hos, Hod, Hot, Hoa⟩⟩, Hh, HQ⟩
  iapply (start_load V K c (ldO 0) (src := xSrc) (dst := xM) (V c main_arg0) (xC V c) rfl rfl (Entails.of_eq rfl) (read_xM V c))
  isplitr; · iexact HC
  isplitl [Hxs]; · iexact Hxs
  isplitl [Hxd]; · iexact Hxd
  isplitl [Hxt]; · iexact Hxt
  isplitl [Hxa]; · iexact Hxa
  iintro Hx
  iapply (start_load V K c (ldO 1) (src := wqSrc c) (dst := wqM) (V c main_arg1) (wqC V c) rfl rfl (Entails.of_eq rfl) rfl)
  isplitr; · iexact HC
  isplitl [Hqs]; · iexact Hqs
  isplitl [Hqd]; · iexact Hqd
  isplitl [Hqt]; · iexact Hqt
  isplitl [Hqa]; · iexact Hqa
  iintro Hq
  iapply (start_load V K c (ldO 2) (src := woSrc c) (dst := woM) (V c main_arg4) (woC V c) rfl rfl (Entails.of_eq rfl) rfl)
  isplitr; · iexact HC
  isplitl [Hos]; · iexact Hos
  isplitl [Hod]; · iexact Hod
  isplitl [Hot]; · iexact Hot
  isplitl [Hoa]; · iexact Hoa
  iintro Ho
  iapply (each8_wp (Ctx V K c) c _ iprop(emp) (headTodo V c) (headFresh (F := F) c) (startHeads_wp V K c))
  isplitr; · iexact HC
  isplitr; · iempintro
  isplitl [Hh]; · iexact Hh
  iintro ⟨-, Hh⟩
  iapply HQ
  isplitl [Hx]; · iexact Hx
  isplitl [Hq]; · iexact Hq
  isplitl [Ho] <;> iassumption

theorem scaleWq_wp (c : Dev nD) (O : CellTallies nD τ sig Unit) (hO : Above 0 O) (Q : PUnit → sProp 𝕄) :
    iprop(Ctx V K c ∗ ow (F := F) c O ∗ fresh (F := F) c (ldO 0) ∗ fresh (F := F) c (ldO 1) ∗ (∃ f, all (F := F) c wqbM f)
        ∗ (ow (F := F) c O ∗ (used (F := F) c (ldO 0) ∗ used (F := F) c (ldO 1)) ∗ (srcP c xSrc (V c main_arg0) ∗ srcP c (wqSrc c) (V c main_arg1))
            ∗ all c xM (xC V c) ∗ all c wqM (wqC V c) ∗ all c wqbM (wqbC V c) -∗ Q ⟨⟩))
      ⊢ Wp c (scaleWq c) Q := by
  unfold scaleWq
  simp only [Prog.lift, Prog.bind_op, Prog.bind_ret]
  iintro ⟨#HC, HO, Hx, Hq, ⟨%f, Hb⟩, HQ⟩
  iapply (wait_own V K c (ldO 0) (src := xSrc) (dst := xM) (b := 0) rfl rfl (Nat.le_of_eq (lv_ld c 0)) hO)
  isplitr; · iexact HC
  isplitl [HO]; · iexact HO
  isplitl [Hx]; · iexact Hx
  iintro ⟨HO, Hxu, Hx⟩
  ihave Hx := (Entails.of_eq (show ownPay V c (ldO 0) = landed c xSrc xM (V c main_arg0) (xC V c) from rfl)) $$ Hx
  icases Hx with ⟨Hxd, Hxs⟩
  iapply (wait_own V K c (ldO 1) (src := wqSrc c) (dst := wqM) (b := 0) rfl rfl (Nat.le_of_eq (lv_ld c 1)) hO)
  isplitr; · iexact HC
  isplitl [HO]; · iexact HO
  isplitl [Hq]; · iexact Hq
  iintro ⟨HO, Hqu, Hq⟩
  ihave Hq := (Entails.of_eq (show ownPay V c (ldO 1) = landed c (wqSrc c) wqM (V c main_arg1) (wqC V c) from rfl)) $$ Hq
  icases Hq with ⟨Hqd, Hqs⟩
  rw [show xM.view.set = Finset.univ from View.set_whole _, show wqM.view.set = Finset.univ from View.set_whole _]
  iapply (load_at c (m := wqM) (Finset.subset_univ _)); isplitl [Hqd]; · iexact Hqd
  iintro Hqd
  rw [show wqM.view.readAt (Elt F) fullW.toLoadRect (wqC V c) = wqC V c from Memref.readAt_unit_zero (Elt F) cc0_scratch1 full_off _ _]
  iapply (load_at c (m := wqbM) (Finset.subset_univ _)); isplitl [Hb]; · iexact Hb
  iintro Hb
  iapply (store_at c (m := wqbM) (r := fullW) (wqbC V c) (S := Finset.univ) (by rw [set_acc, fullW_set])
    (Memref.read_access_unit_zero (Elt F) cc0_scratch3 full_off _ _)); isplitl [Hb]; · iexact Hb
  iintro Hb
  iapply (Wp_pure c)
  iapply HQ
  isplitl [HO]; · iexact HO
  isplitl [Hxu Hqu]; · isplitl [Hxu] <;> iassumption
  isplitl [Hxs Hqs]; · isplitl [Hxs] <;> iassumption
  isplitl [Hxd]; · iexact Hxd
  isplitl [Hqd] <;> iassumption

theorem roundWo_wp (c : Dev nD) (O : CellTallies nD τ sig Unit) (hO : Above 0 O) (Q : PUnit → sProp 𝕄) :
    iprop(Ctx V K c ∗ ow (F := F) c O ∗ fresh (F := F) c (ldO 2) ∗ (∃ f, all (F := F) c wobM f)
        ∗ (ow (F := F) c O ∗ used (F := F) c (ldO 2) ∗ srcP c (woSrc c) (V c main_arg4) ∗ all c woM (woC V c) ∗ all c wobM (wobC V c) -∗ Q ⟨⟩))
      ⊢ Wp c (roundWo c) Q := by
  unfold roundWo
  simp only [Prog.lift, Prog.bind_op, Prog.bind_ret]
  iintro ⟨#HC, HO, Hq, ⟨%f, Hb⟩, HQ⟩
  iapply (wait_own V K c (ldO 2) (src := woSrc c) (dst := woM) (b := 0) rfl rfl (Nat.le_of_eq (lv_ld c 2)) hO)
  isplitr; · iexact HC
  isplitl [HO]; · iexact HO
  isplitl [Hq]; · iexact Hq
  iintro ⟨HO, Hqu, Hq⟩
  ihave Hq := (Entails.of_eq (show ownPay V c (ldO 2) = landed c (woSrc c) woM (V c main_arg4) (woC V c) from rfl)) $$ Hq
  icases Hq with ⟨Hqd, Hqs⟩
  rw [show woM.view.set = Finset.univ from View.set_whole _]
  iapply (load_at c (m := woM) (Finset.subset_univ _)); isplitl [Hqd]; · iexact Hqd
  iintro Hqd
  rw [show woM.view.readAt (Elt F) fullW.toLoadRect (woC V c) = woC V c from Memref.readAt_unit_zero (Elt F) cc0_scratch2 full_off _ _]
  iapply (load_at c (m := wobM) (Finset.subset_univ _)); isplitl [Hb]; · iexact Hb
  iintro Hb
  iapply (store_at c (m := wobM) (r := fullW) (wobC V c) (S := Finset.univ) (by rw [set_acc, fullW_set])
    (Memref.read_access_unit_zero (Elt F) cc0_scratch4 full_off _ _)); isplitl [Hb]; · iexact Hb
  iintro Hb
  iapply (Wp_pure c)
  iapply HQ
  isplitl [HO]; · iexact HO
  isplitl [Hqu]; · iexact Hqu
  isplitl [Hqs]; · iexact Hqs
  isplitl [Hqd] <;> iassumption

/-- Head `h` once its keys and values have landed: the two cells awaited and the two sources back. -/
def headUsed (c : Dev nD) (h : Fin 8) : sProp 𝕄 :=
  iprop((used (F := F) c (kvO 0 h) ∗ used (F := F) c (kvO 1 h)) ∗ (srcP c (headSrc kH h) (V c main_v2) ∗ srcP c (headSrc vH h) (V c main_v4)))

theorem headStepFirst_wp (c : Dev nD) (O : CellTallies nD τ sig Unit) (hO : Above 0 O) (h : Fin 8) (Q : PUnit → sProp 𝕄) :
    iprop(Ctx V K c ∗ ow (F := F) c O ∗ (headFresh (F := F) c h ∗ ctxE (F := F) c h)
        ∗ (ow (F := F) c O ∗ (headUsed V c h ∗ kP V c h ∗ vP V c h ∗ ctxP V c 1 h) -∗ Q ⟨⟩))
      ⊢ Wp c (headStepFirst c (qV V c 1) h) Q := by
  unfold headStepFirst waitHead headFresh headUsed
  simp only [Prog.lift, Prog.bind_op, Prog.bind_ret]
  iintro ⟨#HC, HO, ⟨⟨Hk, Hv⟩, Hc⟩, HQ⟩
  iapply (wait_own V K c (kvO 0 h) (src := headSrc kH h) (dst := headDst kM h) (b := 0) rfl rfl (Nat.le_of_eq (lv_kv c 0 h)) hO)
  isplitr; · iexact HC
  isplitl [HO]; · iexact HO
  isplitl [Hk]; · iexact Hk
  iintro ⟨HO, Hku, Hk⟩
  ihave Hk := (Entails.of_eq (show ownPay V c (kvO 0 h) = landed c (headSrc kH h) (headDst kM h) (V c main_v2) (kC V c) from rfl)) $$ Hk
  icases Hk with ⟨Hkd, Hks⟩
  iapply (wait_own V K c (kvO 1 h) (src := headSrc vH h) (dst := headDst vM h) (b := 0) rfl rfl (Nat.le_of_eq (lv_kv c 1 h)) hO)
  isplitr; · iexact HC
  isplitl [HO]; · iexact HO
  isplitl [Hv]; · iexact Hv
  iintro ⟨HO, Hvu, Hv⟩
  ihave Hv := (Entails.of_eq (show ownPay V c (kvO 1 h) = landed c (headSrc vH h) (headDst vM h) (V c main_v4) (vC V c) from rfl)) $$ Hv
  icases Hv with ⟨Hvd, Hvs⟩
  iapply (headStep_wp V c 1 h)
  isplitl [Hkd]; · iexact Hkd
  isplitl [Hvd]; · iexact Hvd
  isplitl [Hc]; · iexact Hc
  iintro H
  iapply HQ
  isplitl [HO]; · iexact HO
  isplitr [H]
  · isplitl [Hku Hvu]
    · isplitl [Hku] <;> iassumption
    · isplitl [Hks] <;> iassumption
  · iexact H

/-! ## The barrier -/

/-- What the barrier's signal to the peer of slot `s` takes. -/
def barTodo (c : Dev nD) (s : Fin 7) : sProp 𝕄 := iprop(slotsOf (F := F) c s.rev ∗ dutyTok ER (barC (fwd c s)) 0 s.rev)

theorem barrier_wp (c : Dev nD) (Q : PUnit → sProp 𝕄) :
    iprop(Ctx V K c ∗ ow (F := F) c (O₀ c) ∗ bigSep Finset.univ (barTodo (F := F) c)
        ∗ cred (tallyAt (barC c) () 7) ∗ atPos ER (barC c) 0 (∅ : Finset (Fin 7)) 0
        ∗ (ow (F := F) c (agT c 0 + rsT c 0) ∗ atPos ER (barC c) (0 + 1) (∅ : Finset (Fin 7)) 0 ∗ bigSep Finset.univ (barPay (F := F) c) -∗ Q ⟨⟩))
      ⊢ Wp c (barrier c) Q := by
  unfold barrier
  iintro ⟨#HC, HO, Ht, Hc, Hat, HQ⟩
  iapply (Wp_bind c)
  iapply (each7_wp (Ctx V K c) c _ (fun k => ow (F := F) c (agT c 0 + rsT c 0 + barT c k)) (barTodo (F := F) c) (fun _ => iprop(emp))
    (fun s Q => by
      unfold semSignalWord barTodo
      rw [show agT c 0 + rsT c 0 + barT c s.val = agT c 0 + rsT c 0 + barT c (s.val + 1) + tallyAt (barC (fwd c s)) () 1 from by
        rw [barT, tail_step]; simp only [add_assoc]]
      iintro ⟨#HC, HO, ⟨Hs, Ht⟩, HQ⟩
      iapply (signal_peer V K c s (agT c 0 + rsT c 0 + barT c (s.val + 1)))
      isplitr; · iexact HC
      isplitl [Hs]; · iexact Hs
      isplitl [Ht]; · iexact Ht
      isplitl [HO]; · iexact HO
      iintro HO
      iapply (Wp_pure c)
      iapply HQ
      isplitl [HO]; · iexact HO
      iempintro))
  isplitr; · iexact HC
  isplitl [HO]; · iexact HO
  isplitl [Ht]; · iexact Ht
  iintro ⟨HO, -⟩
  rw [show agT c 0 + rsT c 0 + barT c 7 = agT c 0 + rsT c 0 from by rw [barT, tail_end, add_zero]]
  unfold semWaitWord
  iapply (wait_bar V K c (agT c 0 + rsT c 0) (((above_ag c 0).mono (by decide)).add (above_rs c 0)))
  isplitr; · iexact HC
  isplitl [HO]; · iexact HO
  isplitl [Hc]; · iexact Hc
  isplitl [Hat]; · iexact Hat
  iintro H
  iapply (Wp_pure c)
  iapply HQ
  iexact H

/-! ## The exchange -/

/-- What sending the contribution of slot `s` takes, -/
def rsTodo (c : Dev nD) (s : Fin 7) : sProp 𝕄 :=
  iprop(dstE (F := F) c (slotM sendM s) ∗ idle (F := F) c (exO 0 s) ∗ dstE (F := F) (fwd c s) (slotM rsM s)
    ∗ dutyTok ER (ownC' (fwd c s) (exO 1 s)) 0 (0 : Fin 7) ∗ reached ER (ownC' (fwd c s) (exO 1 s)) 0)

theorem sendPartial_wp (c : Dev nD) (s : Fin 7) (Q : PUnit → sProp 𝕄) :
    iprop(Ctx V K c ∗ ow (F := F) c (agT c 0 + rsT c s.val) ∗ rsTodo (F := F) c s
        ∗ (ow (F := F) c (agT c 0 + rsT c (s.val + 1)) ∗ fresh (F := F) c (exO 0 s) -∗ Q ⟨⟩))
      ⊢ Wp c (sendPartial c s (pV V c s.succ)) Q := by
  unfold sendPartial rsTodo idle
  simp only [Prog.lift, Prog.bind_op, Prog.bind_ret]
  rw [show agT c 0 + rsT c s.val = agT c 0 + rsT c (s.val + 1) + tallyAt (ownC' (fwd c s) (exO 1 s)) () N7 from by rw [rsT, tail_step, add_assoc]]
  iintro ⟨#HC, HO, ⟨⟨%f, Hs⟩, ⟨Ht, Ha⟩, Hd, Ht₂, Hr⟩, HQ⟩
  iapply (load_at c (m := sendM) (S := (slotM sendM s).view.set) (by rw [setOn_whole, set_sendM])); isplitl [Hs]; · iexact Hs
  iintro Hs
  iapply (store_at c (m := sendM) (r := slotRect s) (sendC V c) (S := (slotM sendM s).view.set) (by rw [set_acc, set_sendM]) (read_slot (sendV V c) s)); isplitl [Hs]; · iexact Hs
  iintro Hs
  iapply (send_own V K c (fwd c s) (rsDev_eq c s) (exO 0 s) (exO 1 s) (src := slotM sendM s) (dst := slotM rsM s) fullShare (sendC V c) (rsC V (fwd c s)) rfl rfl rfl rfl rfl
    (Entails.of_eq rfl) (Entails.of_eq rfl)
    (by rw [show (slotM rsM s).view.read (Elt F) (rsC V (fwd c s)) = sendV V (fwd (fwd c s) s.rev) s from read_rsM _ s, fwd_rev]; exact (read_sendM _ s).symm)
    (agT c 0 + rsT c (s.val + 1)))
  isplitr; · iexact HC
  isplitl [Hs]; · iexact Hs
  isplitl [Hd]; · iexact Hd
  isplitl [Ht]; · iexact Ht
  isplitl [Ha]; · iexact Ha
  isplitl [Ht₂]; · iexact Ht₂
  isplitl [Hr]; · iexact Hr
  isplitl [HO]; · iexact HO
  iintro H
  iapply (Wp_pure c)
  iapply HQ
  iexact H

theorem accV_succ (c : Dev nD) (s : Fin 7) :
    accV V c (s.val + 1) = k0_pay165 (accV V c s.val) (rsM.view.readAt (Elt F) (slotRect s).toLoadRect (rsC V c)) := dif_pos s.isLt

theorem addPartial_wp (c : Dev nD) (s : Fin 7) (Q : PUnit → sProp 𝕄) :
    iprop(Ctx V K c ∗ (ow (F := F) c (agT c 0) ∗ all c accM (accV V c s.val)) ∗ fresh (F := F) c (exO 1 s)
        ∗ ((ow (F := F) c (agT c 0) ∗ all c accM (accV V c (s.val + 1))) ∗ (used (F := F) c (exO 1 s) ∗ slotPts rsM c s (rsC V c)) -∗ Q ⟨⟩))
      ⊢ Wp c (addPartial s) Q := by
  unfold addPartial
  simp only [Prog.lift, Prog.bind_op, Prog.bind_ret]
  iintro ⟨#HC, ⟨HO, Ha⟩, Hf, HQ⟩
  iapply (wait_own V K c (exO 1 s) (src := slotM sendM s) (dst := slotM rsM s) (b := 2) rfl rfl (Nat.le_of_eq (lv_rs c s)) (above_ag c 0))
  isplitr; · iexact HC
  isplitl [HO]; · iexact HO
  isplitl [Hf]; · iexact Hf
  iintro ⟨HO, Hu, Hr⟩
  ihave Hr := (Entails.of_eq (show ownPay V c (exO 1 s) = slotPts rsM c s (rsC V c) from rfl)) $$ Hr
  iapply (load_at c (m := accM) (Finset.subset_univ _)); isplitl [Ha]; · iexact Ha
  iintro Ha
  rw [show accM.view.readAt (Elt F) fullB.toLoadRect (accV V c s.val) = accV V c s.val from Memref.readAt_unit_zero (Elt F) cc0_scratch12 full_off _ _]
  iapply (load_at c (m := rsM) (S := (slotM rsM s).view.set) (by rw [setOn_whole, set_rsM])); isplitl [Hr]; · iexact Hr
  iintro Hr
  iapply (load_at c (m := accM) (Finset.subset_univ _)); isplitl [Ha]; · iexact Ha
  iintro Ha
  iapply (store_at c (m := accM) (r := fullB) (accV V c (s.val + 1)) (S := Finset.univ) (by rw [set_acc, fullB_set])
    ((Memref.read_access_unit_zero (Elt F) cc0_scratch12 full_off _ _).trans (accV_succ V c s))); isplitl [Ha]; · iexact Ha
  iintro Ha
  iapply (Wp_pure c)
  iapply HQ
  isplitl [HO Ha]
  · isplitl [HO] <;> iassumption
  · isplitl [Hu] <;> iassumption

/-- What sending the sum from slot `s` takes. -/
def agTodo (c : Dev nD) (s : Fin 7) : sProp 𝕄 :=
  iprop((redM.view.loc (c : Thread nD τ) ↦[redM.view.set]{redShare s} redC V c) ∗ idle (F := F) c (exO 2 s) ∗ dstE (F := F) (fwd c s) (slotM agM s)
    ∗ dutyTok ER (ownC' (fwd c s) (exO 3 s)) 0 (0 : Fin 7) ∗ reached ER (ownC' (fwd c s) (exO 3 s)) 0)

theorem sendSum_wp (c : Dev nD) (s : Fin 7) (Q : PUnit → sProp 𝕄) :
    iprop(Ctx V K c ∗ ow (F := F) c (agT c s.val) ∗ agTodo V c s ∗ (ow (F := F) c (agT c (s.val + 1)) ∗ fresh (F := F) c (exO 2 s) -∗ Q ⟨⟩))
      ⊢ Wp c (sendSum c s) Q := by
  unfold sendSum agTodo idle
  simp only [Prog.lift]
  rw [show agT c s.val = agT c (s.val + 1) + tallyAt (ownC' (fwd c s) (exO 3 s)) () N7 from by rw [agT, tail_step]]
  iintro ⟨#HC, HO, ⟨Hs, ⟨Ht, Ha⟩, Hd, Ht₂, Hr⟩, HQ⟩
  iapply (send_own V K c (fwd c s) (agDev_eq c s) (exO 2 s) (exO 3 s) (src := redM) (dst := slotM agM s) (redShare s) (redC V c) (agC V (fwd c s)) rfl rfl rfl rfl rfl
    (Entails.of_eq rfl) (Entails.of_eq rfl)
    (by rw [show (slotM agM s).view.read (Elt F) (agC V (fwd c s)) = redC V (fwd (fwd c s) s.rev) from read_agM _ s, fwd_rev]; rfl)
    (agT c (s.val + 1)))
  isplitr; · iexact HC
  isplitl [Hs]; · iexact Hs
  isplitl [Hd]; · iexact Hd
  isplitl [Ht]; · iexact Ht
  isplitl [Ha]; · iexact Ha
  isplitl [Ht₂]; · iexact Ht₂
  isplitl [Hr]; · iexact Hr
  isplitl [HO]; · iexact HO
  iintro H
  iapply (Wp_pure c)
  iapply HQ
  iexact H

theorem outV_succ (c : Dev nD) (r : Fin 7) : outV V c r.succ = k0_pay182 (agM.view.readAt (Elt F) (slotRect r.rev).toLoadRect (agC V c)) := by
  obtain ⟨r, hr⟩ := r; rfl
theorem outV_peer (c : Dev nD) (s : Fin 7) : outV V c s.rev.succ = k0_pay182 (agM.view.readAt (Elt F) (slotRect s).toLoadRect (agC V c)) := by
  rw [outV_succ, Fin.rev_rev]

theorem storePeer_wp (c : Dev nD) (s : Fin 7) (Q : PUnit → sProp 𝕄) :
    iprop(Ctx V K c ∗ ow (F := F) c 0 ∗ (fresh (F := F) c (exO 3 s) ∗ ∃ f, outPts (F := F) c s.rev.succ f)
        ∗ (ow (F := F) c 0 ∗ (used (F := F) c (exO 3 s) ∗ slotPts agM c s (agC V c) ∗ outPts c s.rev.succ (outC V c)) -∗ Q ⟨⟩))
      ⊢ Wp c (storePeer c s) Q := by
  unfold storePeer
  simp only [Prog.lift, Prog.bind_op, Prog.bind_ret]
  iintro ⟨#HC, HO, ⟨Hf, ⟨%f, Ho⟩⟩, HQ⟩
  iapply (wait_own V K c (exO 3 s) (src := redM) (dst := slotM agM s) (b := 3) rfl rfl (Nat.le_of_eq (lv_ag c s)) (Above.zero 3))
  isplitr; · iexact HC
  isplitl [HO]; · iexact HO
  isplitl [Hf]; · iexact Hf
  iintro ⟨HO, Hu, Hr⟩
  ihave Hr := (Entails.of_eq (show ownPay V c (exO 3 s) = slotPts agM c s (agC V c) from rfl)) $$ Hr
  iapply (load_at c (m := agM) (S := (slotM agM s).view.set) (by rw [setOn_whole, set_agM])); isplitl [Hr]; · iexact Hr
  iintro Hr
  iapply (load_at c (m := outM) (S := (outM.access (outRect c s.rev.succ)).set) (by rw [setOn_whole, set_acc])); isplitl [Ho]; · iexact Ho
  iintro Ho
  iapply (store_at c (m := outM) (r := outRect c s.rev.succ) (outC V c) rfl ((read_out c _ s.rev.succ).trans (outV_peer V c s))); isplitl [Ho]; · iexact Ho
  iintro Ho
  iapply (Wp_pure c)
  iapply HQ
  isplitl [HO]; · iexact HO
  isplitl [Hu]; · iexact Hu
  isplitl [Hr] <;> iassumption

/-- A slot sent, back: its departure awaited. -/
def backRs (c : Dev nD) (s : Fin 7) : sProp 𝕄 := iprop(used (F := F) c (exO 0 s) ∗ slotPts sendM c s (sendC V c))
def backAg (c : Dev nD) (s : Fin 7) : sProp 𝕄 :=
  iprop(used (F := F) c (exO 2 s) ∗ (redM.view.loc (c : Thread nD τ) ↦[redM.view.set]{redShare s} redC V c))

theorem lv_dep (c : Dev nD) (s : Fin 7) : lv (ownC' c (exO 0 s)) () = 0 ∧ lv (ownC' c (exO 2 s)) () = 0 := by
  constructor <;> (dsimp only [lv]; rw [decode_own]; rfl)

theorem waitSends_wp (c : Dev nD) (Q : PUnit → sProp 𝕄) :
    iprop(Ctx V K c ∗ ow (F := F) c 0 ∗ bigSep Finset.univ (fun s => fresh (F := F) c (exO 0 s)) ∗ bigSep Finset.univ (fun s => fresh (F := F) c (exO 2 s))
        ∗ (ow (F := F) c 0 ∗ bigSep Finset.univ (backRs V c) ∗ bigSep Finset.univ (backAg V c) -∗ Q ⟨⟩))
      ⊢ Wp c waitSends Q := by
  unfold waitSends
  iintro ⟨#HC, HO, H₀, H₂, HQ⟩
  iapply (Wp_bind c)
  iapply (each7_wp (Ctx V K c) c _ (fun _ => ow (F := F) c 0) (fun s => fresh (F := F) c (exO 0 s)) (backRs V c) (fun s Q => by
    unfold backRs
    simp only [Prog.lift]
    iintro ⟨#HC, HO, Hf, HQ⟩
    iapply (wait_own V K c (exO 0 s) (src := slotM rsM s) (dst := slotM sendM s) (b := 0) rfl rfl (Nat.le_of_eq (lv_dep c s).1) (Above.zero 0))
    isplitr; · iexact HC
    isplitl [HO]; · iexact HO
    isplitl [Hf]; · iexact Hf
    iintro ⟨HO, Hu, Hr⟩
    iapply (Wp_pure c)
    iapply HQ
    isplitl [HO]; · iexact HO
    isplitl [Hu]; · iexact Hu
    iapply (Entails.of_eq (show ownPay V c (exO 0 s) = slotPts sendM c s (sendC V c) from rfl)); iexact Hr))
  isplitr; · iexact HC
  isplitl [HO]; · iexact HO
  isplitl [H₀]; · iexact H₀
  iintro ⟨HO, H₀⟩
  iapply (each7_wp (Ctx V K c) c _ (fun _ => ow (F := F) c 0) (fun s => fresh (F := F) c (exO 2 s)) (backAg V c) (fun s Q => by
    unfold backAg
    simp only [Prog.lift]
    iintro ⟨#HC, HO, Hf, HQ⟩
    iapply (wait_own V K c (exO 2 s) (src := slotM agM s) (dst := redM) (b := 0) rfl rfl (Nat.le_of_eq (lv_dep c s).2) (Above.zero 0))
    isplitr; · iexact HC
    isplitl [HO]; · iexact HO
    isplitl [Hf]; · iexact Hf
    iintro ⟨HO, Hu, Hr⟩
    iapply (Wp_pure c)
    iapply HQ
    isplitl [HO]; · iexact HO
    isplitl [Hu]; · iexact Hu
    iapply (Entails.of_eq (show ownPay V c (exO 2 s) = (redM.view.loc (c : Thread nD τ) ↦[redM.view.set]{redShare s} redC V c) from rfl)); iexact Hr))
  isplitr; · iexact HC
  isplitl [HO]; · iexact HO
  isplitl [H₂]; · iexact H₂
  iintro ⟨HO, H₂⟩
  iapply HQ
  isplitl [HO]; · iexact HO
  isplitl [H₀] <;> iassumption

end Cert.KernelIdeal.Swa

end
-- ==== Proof.Swa.Run.lean ====
/-
  The body on device `c`: from what it starts with to what it leaves, every buffer named.
-/
module

public import proofs.«01_k».proof.Proof.Swa.Talk
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F)) (K : GSem nD τ sig → ℕ)

/-- What every block finds and leaves: the operands in place, the context buffer at some contents. -/
def operands (c : Dev nD) : sProp 𝕄 :=
  iprop(all c xM (xC V c) ∗ all c wqbM (wqbC V c) ∗ all c wobM (wobC V c) ∗ bigSep Finset.univ (kP V c) ∗ bigSep Finset.univ (vP V c)
    ∗ bigSep Finset.univ (ctxE (F := F) c))

theorem ctx_forget (c : Dev nD) (j : Fin 8) : bigSep Finset.univ (ctxP V c j) ⊢ bigSep Finset.univ (ctxE (F := F) c) :=
  bigSep_mono fun h _ => show ctxP V c j h ⊢ iprop(∃ f, pts (F := F) c ctxM (ctxM.access (ctxRect h)).set f) from by
    iintro H; iexists _; iexact H

/-- What a block that is sent takes: its output rows and its slot. -/
def blockTodo (c : Dev nD) (s : Fin 7) : sProp 𝕄 := iprop((∃ f, outPts (F := F) c s.succ f) ∗ rsTodo (F := F) c s)
def blockDone (c : Dev nD) (s : Fin 7) : sProp 𝕄 := iprop(outPts c s.succ (ownC V c) ∗ fresh (F := F) c (exO 0 s))

/-- What is owed while the contributions of slots before `k` are away. -/
abbrev owing (c : Dev nD) (k : ℕ) : sProp 𝕄 := ow (F := F) c (agT c 0 + rsT c k)

theorem laterBlock_wp (c : Dev nD) (s : Fin 7) (Q : PUnit → sProp 𝕄) :
    iprop(Ctx V K c ∗ operands V c ∗ owing (F := F) c s.val ∗ blockTodo (F := F) c s
        ∗ (operands V c ∗ owing (F := F) c (s.val + 1) ∗ blockDone V c s -∗ Q ⟨⟩))
      ⊢ Wp c (laterBlock c s) Q := by
  unfold laterBlock operands blockTodo blockDone
  iintro ⟨#HC, ⟨Hx, Hq, Hw, Hk, Hv, Hc⟩, HO, ⟨Ho, Hs⟩, HQ⟩
  iapply (Wp_bind c)
  iapply (queries_wp V c s.succ)
  isplitl [Hx]; · iexact Hx
  isplitl [Hq]; · iexact Hq
  iintro ⟨Hx, Hq⟩
  iapply (Wp_bind c)
  iapply (heads_wp V c s.succ)
  isplitl [Hk]; · iexact Hk
  isplitl [Hv]; · iexact Hv
  isplitl [Hc]; · iexact Hc
  iintro ⟨Hk, Hv, Hc⟩
  iapply (Wp_bind c)
  iapply (project_wp V c s.succ)
  isplitl [Hc]; · iexact Hc
  isplitl [Hw]; · iexact Hw
  isplitl [Ho]; · iexact Ho
  iintro ⟨Hc, Hw, Ho⟩
  iapply (sendPartial_wp V K c s)
  isplitr; · iexact HC
  isplitl [HO]; · iexact HO
  isplitl [Hs]; · iexact Hs
  iintro ⟨HO, Hf⟩
  iapply HQ
  isplitr [HO Ho Hf]
  · isplitl [Hx]; · iexact Hx
    isplitl [Hq]; · iexact Hq
    isplitl [Hw]; · iexact Hw
    isplitl [Hk]; · iexact Hk
    isplitl [Hv]; · iexact Hv
    iapply (ctx_forget V c s.succ); iexact Hc
  isplitl [HO]; · iexact HO
  isplitl [Ho] <;> iassumption

/-- The first block's operands: the keys and values under way, the rows of `Wo` too. -/
def firstTodo (c : Dev nD) : sProp 𝕄 :=
  iprop((all c xM (xC V c) ∗ all c wqbM (wqbC V c)) ∗ (fresh (F := F) c (ldO 2) ∗ ∃ f, all (F := F) c wobM f)
    ∗ bigSep Finset.univ (fun h => iprop(headFresh (F := F) c h ∗ ctxE (F := F) c h)))
/-- What it leaves beside the operands. -/
def firstDone (c : Dev nD) : sProp 𝕄 :=
  iprop(bigSep Finset.univ (headUsed V c) ∗ used (F := F) c (ldO 2) ∗ srcP c (woSrc c) (V c main_arg4) ∗ all c woM (woC V c))

theorem owing_above (c : Dev nD) (k : ℕ) : Above 0 (agT c 0 + rsT c k) :=
  ((above_ag c 0).mono (by decide)).add ((above_rs c k).mono (by decide))

theorem firstBlock_wp (c : Dev nD) (Q : PUnit → sProp 𝕄) :
    iprop(Ctx V K c ∗ firstTodo V c ∗ owing (F := F) c 0 ∗ blockTodo (F := F) c 0
        ∗ (operands V c ∗ firstDone V c ∗ owing (F := F) c 1 ∗ blockDone V c 0 -∗ Q ⟨⟩))
      ⊢ Wp c (firstBlock c) Q := by
  unfold firstBlock firstTodo firstDone operands blockTodo blockDone
  iintro ⟨#HC, ⟨⟨Hx, Hq⟩, ⟨Hwf, Hw⟩, Hh⟩, HO, ⟨Ho, Hs⟩, HQ⟩
  iapply (Wp_bind c)
  iapply (queries_wp V c 1)
  isplitl [Hx]; · iexact Hx
  isplitl [Hq]; · iexact Hq
  iintro ⟨Hx, Hq⟩
  iapply (Wp_bind c)
  iapply (each8_wp (Ctx V K c) c _ (owing (F := F) c 0) _ (fun h => iprop(headUsed V c h ∗ kP V c h ∗ vP V c h ∗ ctxP V c 1 h))
    (fun h Q => headStepFirst_wp V K c _ (owing_above c 0) h Q))
  isplitr; · iexact HC
  isplitl [HO]; · iexact HO
  isplitl [Hh]; · iexact Hh
  rw [bigSep_sep' Finset.univ (headUsed V c) (fun h => iprop(kP V c h ∗ vP V c h ∗ ctxP V c 1 h)),
    bigSep_sep' Finset.univ (kP V c) (fun h => iprop(vP V c h ∗ ctxP V c 1 h)), bigSep_sep' Finset.univ (vP V c) (ctxP V c 1)]
  iintro ⟨HO, Hu, Hk, Hv, Hc⟩
  iapply (Wp_bind c)
  iapply (roundWo_wp V K c _ (owing_above c 0))
  isplitr; · iexact HC
  isplitl [HO]; · iexact HO
  isplitl [Hwf]; · iexact Hwf
  isplitl [Hw]; · iexact Hw
  iintro ⟨HO, Hwu, Hws, Hwd, Hw⟩
  iapply (Wp_bind c)
  iapply (project_wp V c 1)
  isplitl [Hc]; · iexact Hc
  isplitl [Hw]; · iexact Hw
  isplitl [Ho]; · iexact Ho
  iintro ⟨Hc, Hw, Ho⟩
  iapply (sendPartial_wp V K c 0)
  isplitr; · iexact HC
  isplitl [HO]; · iexact HO
  isplitl [Hs]; · iexact Hs
  iintro ⟨HO, Hf⟩
  iapply HQ
  isplitl [Hx Hq Hw Hk Hv Hc]
  · isplitl [Hx]; · iexact Hx
    isplitl [Hq]; · iexact Hq
    isplitl [Hw]; · iexact Hw
    isplitl [Hk]; · iexact Hk
    isplitl [Hv]; · iexact Hv
    iapply (ctx_forget V c 1); iexact Hc
  isplitl [Hu Hwu Hws Hwd]
  · isplitl [Hu]; · iexact Hu
    isplitl [Hwu]; · iexact Hwu
    isplitl [Hws]; · iexact Hws
    iexact Hwd
  isplitl [HO]; · iexact HO
  isplitl [Ho]; · iexact Ho
  iexact Hf

theorem ownBlock_wp (c : Dev nD) (Q : PUnit → sProp 𝕄) :
    iprop(operands V c ∗ (∃ f, outPts (F := F) c 0 f) ∗ (operands V c ∗ outPts c 0 (ownC V c) -∗ Q ⟨⟩)) ⊢ Wp c (ownBlock c) Q := by
  unfold ownBlock operands
  iintro ⟨⟨Hx, Hq, Hw, Hk, Hv, Hc⟩, Ho, HQ⟩
  iapply (Wp_bind c)
  iapply (queries_wp V c 0)
  isplitl [Hx]; · iexact Hx
  isplitl [Hq]; · iexact Hq
  iintro ⟨Hx, Hq⟩
  iapply (Wp_bind c)
  iapply (heads_wp V c 0)
  isplitl [Hk]; · iexact Hk
  isplitl [Hv]; · iexact Hv
  isplitl [Hc]; · iexact Hc
  iintro ⟨Hk, Hv, Hc⟩
  iapply (Wp_bind c)
  iapply (project_wp V c 0)
  isplitl [Hc]; · iexact Hc
  isplitl [Hw]; · iexact Hw
  isplitl [Ho]; · iexact Ho
  iintro ⟨Hc, Hw, Ho⟩
  iapply (Wp_pure c)
  iapply HQ
  isplitr [Ho]
  · isplitl [Hx]; · iexact Hx
    isplitl [Hq]; · iexact Hq
    isplitl [Hw]; · iexact Hw
    isplitl [Hk]; · iexact Hk
    isplitl [Hv]; · iexact Hv
    iapply (ctx_forget V c 0); iexact Hc
  iexact Ho

/-! ## The whole body -/

/-- The exchange's part of what device `c` starts with, by slot. -/
def slotTodo (c : Dev nD) (s : Fin 7) : sProp 𝕄 :=
  iprop((dstE (F := F) c (slotM sendM s) ∗ idle (F := F) c (exO 0 s) ∗ dutyTok ER (ownC' (fwd c s) (exO 1 s)) 0 (0 : Fin 7))
    ∗ (idle (F := F) c (exO 2 s) ∗ dutyTok ER (ownC' (fwd c s) (exO 3 s)) 0 (0 : Fin 7)))

/-- What device `c` starts the body with, beside the shared facts. -/
def bodyPre (c : Dev nD) : sProp 𝕄 :=
  iprop(ow (F := F) c (O₀ c) ∗ ldTodo V c ∗ bigSep Finset.univ (headTodo V c)
    ∗ (bigSep Finset.univ (barTodo (F := F) c) ∗ cred (tallyAt (barC c) () 7) ∗ atPos ER (barC c) 0 (∅ : Finset (Fin 7)) 0)
    ∗ bigSep Finset.univ (slotTodo (F := F) c) ∗ bigSep Finset.univ (fun s => fresh (F := F) c (exO 1 s)) ∗ bigSep Finset.univ (fun s => fresh (F := F) c (exO 3 s))
    ∗ ((∃ f, all (F := F) c wqbM f) ∗ (∃ f, all (F := F) c wobM f) ∗ bigSep Finset.univ (ctxE (F := F) c) ∗ (∃ f, all (F := F) c accM f) ∗ (∃ f, all (F := F) c redM f))
    ∗ (∃ f, outPts (F := F) c 0 f) ∗ bigSep Finset.univ (fun s : Fin 7 => iprop(∃ f, outPts (F := F) c s.succ f)))

/-- What it leaves: by slot, -/
def slotDone (c : Dev nD) (s : Fin 7) : sProp 𝕄 :=
  iprop(backRs V c s ∗ backAg V c s ∗ (used (F := F) c (exO 1 s) ∗ slotPts rsM c s (rsC V c))
    ∗ (used (F := F) c (exO 3 s) ∗ slotPts agM c s (agC V c) ∗ outPts c s.rev.succ (outC V c)))
/-- and all of it. -/
def bodyPost (c : Dev nD) : sProp 𝕄 :=
  iprop(ow (F := F) c 0 ∗ atPos ER (barC c) (0 + 1) (∅ : Finset (Fin 7)) 0 ∗ bigSep Finset.univ (slotDone V c)
    ∗ ((used (F := F) c (ldO 0) ∗ used (F := F) c (ldO 1)) ∗ (srcP c xSrc (V c main_arg0) ∗ srcP c (wqSrc c) (V c main_arg1)) ∗ all c wqM (wqC V c))
    ∗ firstDone V c ∗ operands V c ∗ all c accM (sumV V c)
    ∗ (redM.view.loc (c : Thread nD τ) ↦[redM.view.set]{Transfers.shareDrop fullShare 7} redC V c) ∗ outPts c 0 (outC V c))

theorem red_split (c : Dev nD) :
    all c redM (redC V c) ⊢ iprop((redM.view.loc (c : Thread nD τ) ↦[redM.view.set]{Transfers.shareDrop fullShare 7} redC V c)
      ∗ bigSep Finset.univ (fun s : Fin 7 => redM.view.loc (c : Thread nD τ) ↦[redM.view.set]{redShare s} redC V c)) := by
  rw [show redM.view.set = Finset.univ from View.set_whole _]
  exact (Transfers.pointsTo_toks fullShare 7).1

/-- What the sums' sends take beside the shares of the sum. -/
def agRest (c : Dev nD) (s : Fin 7) : sProp 𝕄 :=
  iprop(idle (F := F) c (exO 2 s) ∗ dstE (F := F) (fwd c s) (slotM agM s)
    ∗ dutyTok ER (ownC' (fwd c s) (exO 3 s)) 0 (0 : Fin 7) ∗ reached ER (ownC' (fwd c s) (exO 3 s)) 0)

/-- With the peers' slots in hand, both sends of a slot can be made. -/
theorem slot_ready (c : Dev nD) (s : Fin 7) : iprop(slotTodo (F := F) c s ∗ barPay (F := F) c s) ⊢ iprop(rsTodo (F := F) c s ∗ agRest (F := F) c s) := by
  unfold slotTodo barPay rsTodo agRest
  iintro ⟨⟨⟨Hs, Hi, Ht⟩, Hi₂, Ht₂⟩, Hr, Ha, Hr₁, Hr₃⟩
  isplitl [Hs Hi Ht Hr Hr₁]
  · isplitl [Hs]; · iexact Hs
    isplitl [Hi]; · iexact Hi
    isplitl [Hr]; · iexact Hr
    isplitl [Ht]; · iexact Ht
    iexact Hr₁
  · isplitl [Hi₂]; · iexact Hi₂
    isplitl [Ha]; · iexact Ha
    isplitl [Ht₂]; · iexact Ht₂
    iexact Hr₃

theorem blocks_ready (c : Dev nD) :
    iprop((bigSep Finset.univ (slotTodo (F := F) c) ∗ bigSep Finset.univ (barPay (F := F) c)) ∗ bigSep Finset.univ (fun s : Fin 7 => iprop(∃ f, outPts (F := F) c s.succ f)))
      ⊢ iprop(bigSep Finset.univ (blockTodo (F := F) c) ∗ bigSep Finset.univ (agRest (F := F) c)) := by
  have hb : bigSep Finset.univ (blockTodo (F := F) c)
      = iprop(bigSep Finset.univ (fun s : Fin 7 => iprop(∃ f, outPts (F := F) c s.succ f)) ∗ bigSep Finset.univ (rsTodo (F := F) c)) := by
    unfold blockTodo; exact bigSep_sep' _ _ _
  rw [hb]
  iintro ⟨H, Ho⟩
  ihave H := (((Entails.of_eq (bigSep_sep' _ _ _).symm).trans (bigSep_mono fun s _ => slot_ready (F := F) c s)).trans (Entails.of_eq (bigSep_sep' _ _ _))) $$ H
  icases H with ⟨Hr, Ha⟩
  isplitr [Ha]
  · isplitl [Ho] <;> iassumption
  · iexact Ha

theorem ags_ready (c : Dev nD) :
    iprop(bigSep Finset.univ (agRest (F := F) c) ∗ bigSep Finset.univ (fun s : Fin 7 => redM.view.loc (c : Thread nD τ) ↦[redM.view.set]{redShare s} redC V c))
      ⊢ bigSep Finset.univ (agTodo V c) := by
  refine (Entails.of_eq (bigSep_sep' _ _ _).symm).trans (bigSep_mono fun s _ => ?_)
  show iprop(agRest (F := F) c s ∗ (redM.view.loc (c : Thread nD τ) ↦[redM.view.set]{redShare s} redC V c)) ⊢ agTodo V c s
  unfold agRest agTodo
  iintro ⟨H, Hr⟩
  isplitl [Hr]; · iexact Hr
  iexact H

/-- A block's output rows once its contribution is out: at some contents, in the order the results arrive. -/
theorem outs_rev (c : Dev nD) :
    bigSep Finset.univ (fun s : Fin 7 => outPts c s.succ (ownC V c)) ⊢ bigSep Finset.univ (fun s : Fin 7 => iprop(∃ f, outPts (F := F) c s.rev.succ f)) := by
  rw [bigSep_univ_equiv Fin.revPerm (fun s : Fin 7 => outPts c s.succ (ownC V c))]
  exact bigSep_mono fun s _ => show outPts c s.rev.succ (ownC V c) ⊢ iprop(∃ f, outPts (F := F) c s.rev.succ f) from by
    iintro H; iexists _; iexact H

set_option maxHeartbeats 1000000 in
theorem bodyAt_wp (c : Dev nD) (Q : PUnit → sProp 𝕄) :
    iprop(Ctx V K c ∗ bodyPre V c ∗ (bodyPost V c -∗ Q ⟨⟩)) ⊢ Wp c (bodyAt c) Q := by
  unfold bodyAt bodyPre
  iintro ⟨#HC, ⟨HO, Hld, Hhd, ⟨Hbt, Hbc, Hba⟩, Hslot, Hf₁, Hf₃, ⟨Hqb, Hob, Hctx, Hacc, Hred⟩, Hout₀, Hout⟩, HQ⟩
  iapply (Wp_bind c)
  iapply (startLoads_wp V K c)
  isplitr; · iexact HC
  isplitl [Hld]; · iexact Hld
  isplitl [Hhd]; · iexact Hhd
  iintro ⟨Hl₀, Hl₁, Hl₂, Hhf⟩
  iapply (Wp_bind c)
  iapply (barrier_wp V K c)
  isplitr; · iexact HC
  isplitl [HO]; · iexact HO
  isplitl [Hbt]; · iexact Hbt
  isplitl [Hbc]; · iexact Hbc
  isplitl [Hba]; · iexact Hba
  iintro ⟨HO, Hba, Hbp⟩
  ihave Hb := (blocks_ready c) $$ [Hslot Hbp Hout]
  · isplitr [Hout]
    · isplitl [Hslot] <;> iassumption
    · iexact Hout
  icases Hb with ⟨Hblk, Hag⟩
  iapply (Wp_bind c)
  iapply (scaleWq_wp V K c _ (owing_above c 0))
  isplitr; · iexact HC
  isplitl [HO]; · iexact HO
  isplitl [Hl₀]; · iexact Hl₀
  isplitl [Hl₁]; · iexact Hl₁
  isplitl [Hqb]; · iexact Hqb
  iintro ⟨HO, Hlu, Hls, Hx, Hwq, Hqb⟩
  ihave Hblk := (Entails.of_eq (sep7 (blockTodo (F := F) c))) $$ Hblk
  icases Hblk with ⟨Ht0, Ht1, Ht2, Ht3, Ht4, Ht5, Ht6⟩
  iapply (Wp_bind c)
  iapply (firstBlock_wp V K c)
  isplitr; · iexact HC
  isplitl [Hx Hqb Hl₂ Hob Hhf Hctx]
  · unfold firstTodo
    isplitl [Hx Hqb]
    · isplitl [Hx] <;> iassumption
    isplitl [Hl₂ Hob]
    · isplitl [Hl₂] <;> iassumption
    iapply (Entails.of_eq (bigSep_sep' Finset.univ (headFresh (F := F) c) (ctxE (F := F) c)).symm)
    isplitl [Hhf] <;> iassumption
  isplitl [HO]; · iexact HO
  isplitl [Ht0]; · iexact Ht0
  iintro ⟨HS, Hfd, HO, Hd0⟩
  iapply (Wp_bind c)
  iapply (laterBlock_wp V K c 1)
  isplitr; · iexact HC
  isplitl [HS]; · iexact HS
  isplitl [HO]; · iexact HO
  isplitl [Ht1]; · iexact Ht1
  iintro ⟨HS, HO, Hd1⟩
  iapply (Wp_bind c)
  iapply (laterBlock_wp V K c 2)
  isplitr; · iexact HC
  isplitl [HS]; · iexact HS
  isplitl [HO]; · iexact HO
  isplitl [Ht2]; · iexact Ht2
  iintro ⟨HS, HO, Hd2⟩
  iapply (Wp_bind c)
  iapply (laterBlock_wp V K c 3)
  isplitr; · iexact HC
  isplitl [HS]; · iexact HS
  isplitl [HO]; · iexact HO
  isplitl [Ht3]; · iexact Ht3
  iintro ⟨HS, HO, Hd3⟩
  iapply (Wp_bind c)
  iapply (laterBlock_wp V K c 4)
  isplitr; · iexact HC
  isplitl [HS]; · iexact HS
  isplitl [HO]; · iexact HO
  isplitl [Ht4]; · iexact Ht4
  iintro ⟨HS, HO, Hd4⟩
  iapply (Wp_bind c)
  iapply (laterBlock_wp V K c 5)
  isplitr; · iexact HC
  isplitl [HS]; · iexact HS
  isplitl [HO]; · iexact HO
  isplitl [Ht5]; · iexact Ht5
  iintro ⟨HS, HO, Hd5⟩
  iapply (Wp_bind c)
  iapply (laterBlock_wp V K c 6)
  isplitr; · iexact HC
  isplitl [HS]; · iexact HS
  isplitl [HO]; · iexact HO
  isplitl [Ht6]; · iexact Ht6
  iintro ⟨HS, HO, Hd6⟩
  ihave Hd := (Entails.of_eq (sep7 (blockDone V c)).symm) $$ [Hd0 Hd1 Hd2 Hd3 Hd4 Hd5 Hd6]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    iexact Hd6
  ihave Hd := (Entails.of_eq (show bigSep Finset.univ (blockDone V c) = iprop(bigSep Finset.univ (fun s : Fin 7 => outPts c s.succ (ownC V c))
      ∗ bigSep Finset.univ (fun s => fresh (F := F) c (exO 0 s))) from bigSep_sep' _ _ _)) $$ Hd
  icases Hd with ⟨Hout, Hf₀⟩
  iapply (Wp_bind c)
  iapply (ownBlock_wp V c)
  isplitl [HS]; · iexact HS
  isplitl [Hout₀]; · iexact Hout₀
  iintro ⟨HS, Hout₀⟩
  iapply (Wp_bind c)
  iapply (startAcc_wp V c)
  isplitl [Hout₀]; · iexact Hout₀
  isplitl [Hacc]; · iexact Hacc
  iintro ⟨Hout₀, Hacc⟩
  iapply (Wp_bind c)
  iapply (each7_wp (Ctx V K c) c _ (fun k => iprop(ow (F := F) c (agT c 0) ∗ all c accM (accV V c k))) _
    (fun s => iprop(used (F := F) c (exO 1 s) ∗ slotPts rsM c s (rsC V c))) (addPartial_wp V K c))
  isplitr; · iexact HC
  isplitl [HO Hacc]
  · isplitl [HO]
    · rw [show agT c 0 = agT c 0 + rsT c 7 from by rw [rsT, tail_end, add_zero]]; iexact HO
    · iexact Hacc
  isplitl [Hf₁]; · iexact Hf₁
  iintro ⟨⟨HO, Hacc⟩, Hd₁⟩
  iapply (Wp_bind c)
  iapply (storeSum_wp V c)
  isplitl [Hacc]; · iexact Hacc
  isplitl [Hout₀]; · iexists _; iexact Hout₀
  isplitl [Hred]; · iexact Hred
  iintro ⟨Hacc, Hout₀, Hred⟩
  ihave Hred := (red_split V c) $$ Hred
  icases Hred with ⟨Hdrop, Hred⟩
  iapply (Wp_bind c)
  iapply (each7_wp (Ctx V K c) c _ (fun k => ow (F := F) c (agT c k)) (agTodo V c) (fun s => fresh (F := F) c (exO 2 s)) (sendSum_wp V K c))
  isplitr; · iexact HC
  isplitl [HO]; · iexact HO
  isplitl [Hag Hred]
  · iapply (ags_ready V c)
    isplitl [Hag] <;> iassumption
  iintro ⟨HO, Hf₂⟩
  rw [show agT c 7 = 0 from tail_end _ _]
  iapply (Wp_bind c)
  iapply (each7_wp (Ctx V K c) c _ (fun _ => ow (F := F) c 0) (fun s => iprop(fresh (F := F) c (exO 3 s) ∗ ∃ f, outPts (F := F) c s.rev.succ f))
    (fun s => iprop(used (F := F) c (exO 3 s) ∗ slotPts agM c s (agC V c) ∗ outPts c s.rev.succ (outC V c))) (storePeer_wp V K c))
  isplitr; · iexact HC
  isplitl [HO]; · iexact HO
  isplitl [Hf₃ Hout]
  · iapply (Entails.of_eq (bigSep_sep' Finset.univ (fun s => fresh (F := F) c (exO 3 s)) (fun s => iprop(∃ f, outPts (F := F) c s.rev.succ f))).symm)
    isplitl [Hf₃]; · iexact Hf₃
    iapply (outs_rev V c); iexact Hout
  iintro ⟨HO, Hd₃⟩
  iapply (waitSends_wp V K c)
  isplitr; · iexact HC
  isplitl [HO]; · iexact HO
  isplitl [Hf₀]; · iexact Hf₀
  isplitl [Hf₂]; · iexact Hf₂
  iintro ⟨HO, Hd₀, Hd₂⟩
  iapply HQ
  unfold bodyPost
  isplitl [HO]; · iexact HO
  isplitl [Hba]; · iexact Hba
  isplitl [Hd₀ Hd₂ Hd₁ Hd₃]
  · unfold slotDone
    rw [bigSep_sep' Finset.univ (backRs V c), bigSep_sep' Finset.univ (backAg V c),
      bigSep_sep' Finset.univ (fun s => iprop(used (F := F) c (exO 1 s) ∗ slotPts rsM c s (rsC V c)))]
    isplitl [Hd₀]; · iexact Hd₀
    isplitl [Hd₂]; · iexact Hd₂
    isplitl [Hd₁]; · iexact Hd₁
    iexact Hd₃
  isplitl [Hlu Hls Hwq]
  · isplitl [Hlu]; · iexact Hlu
    isplitl [Hls]; · iexact Hls
    iexact Hwq
  isplitl [Hfd]; · iexact Hfd
  isplitl [HS]; · iexact HS
  isplitl [Hacc]; · iexact Hacc
  isplitl [Hdrop]; · iexact Hdrop
  iexact Hout₀

end Cert.KernelIdeal.Swa

end
-- ==== Proof.Swa.Enter.lean ====
/-
  Into the body and out of it: the whole buffers cut into the pieces the steps work on, and put together again; every cell closed.
-/
module

public import proofs.«01_k».proof.Proof.Swa.Run
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F)) (K : GSem nD τ sig → ℕ)

/-- A family over a device's own cells, kind by kind. -/
theorem own_split (Φ : Own → sProp 𝕄) :
    bigSep Finset.univ Φ = iprop((Φ (ldO 0) ∗ Φ (ldO 1) ∗ Φ (ldO 2))
      ∗ (bigSep Finset.univ (fun h => Φ (kvO 0 h)) ∗ bigSep Finset.univ (fun h => Φ (kvO 1 h)))
      ∗ (bigSep Finset.univ (fun s => Φ (exO 0 s)) ∗ bigSep Finset.univ (fun s => Φ (exO 1 s)) ∗ bigSep Finset.univ (fun s => Φ (exO 2 s))
        ∗ bigSep Finset.univ (fun s => Φ (exO 3 s)))) := by
  have h₁ : bigSep Finset.univ (fun i : Fin 3 => Φ (ldO i)) = iprop(Φ (ldO 0) ∗ Φ (ldO 1) ∗ Φ (ldO 2)) :=
    bigSep_univ_eq_bigSepL [0, 1, 2] (by decide) (by decide) _
  have h₂ (Ψ : Fin 2 → sProp 𝕄) : bigSep Finset.univ Ψ = iprop(Ψ 0 ∗ Ψ 1) := bigSep_univ_eq_bigSepL [0, 1] (by decide) (by decide) _
  have h₃ (Ψ : Fin 4 → sProp 𝕄) : bigSep Finset.univ Ψ = iprop(Ψ 0 ∗ Ψ 1 ∗ Ψ 2 ∗ Ψ 3) := bigSep_univ_eq_bigSepL [0, 1, 2, 3] (by decide) (by decide) _
  rw [← h₁, ← h₂ (fun k => bigSep Finset.univ (fun h => Φ (kvO k h))), ← h₃ (fun a => bigSep Finset.univ (fun s => Φ (exO a s))),
    BI.bigSep_univ_sum, BI.bigSep_univ_sum, BI.bigSep_univ_prod, BI.bigSep_univ_prod]
  rfl

/-- A family over the output's blocks: the device's own block, and the seven sent. -/
theorem block_split (Φ : Fin 8 → sProp 𝕄) : bigSep Finset.univ Φ = iprop(Φ 0 ∗ bigSep Finset.univ (fun s : Fin 7 => Φ s.succ)) := by
  rw [sep8, sep7]; rfl

theorem rev_slots (Φ : Fin 7 → sProp 𝕄) : bigSep Finset.univ Φ = bigSep Finset.univ (fun s : Fin 7 => Φ s.rev) := bigSep_univ_equiv Fin.revPerm Φ

/-- A buffer at some contents is its pieces, each at some contents. -/
theorem pieces_open {ℓ : Loc nD τ sig} {κ : Type} [Fintype κ] [DecidableEq κ] {I : κ → Finset (Idx ℓ)} (key : Idx ℓ → κ) (h : ∀ j i, i ∈ I j ↔ key i = j) :
    (iprop(∃ f, ℓ ↦{fullShare} f) : sProp 𝕄) ⊢ bigSep Finset.univ fun j : κ => iprop(∃ f : Buf (Elt F) ℓ, ℓ ↦[I j]{fullShare} f) := by
  have hf (f : Buf (Elt F) ℓ) : (bigSep Finset.univ fun j : κ => ℓ ↦[I j]{fullShare} f) ⊢ (bigSep Finset.univ fun j : κ => iprop(∃ f : Buf (Elt F) ℓ, ℓ ↦[I j]{fullShare} f) : sProp 𝕄) :=
    bigSep_mono fun j _ => show (ℓ ↦[I j]{fullShare} f) ⊢ (iprop(∃ f : Buf (Elt F) ℓ, ℓ ↦[I j]{fullShare} f) : sProp 𝕄) from by iintro H; iexists f; iexact H
  iintro ⟨%f, H⟩
  iapply ((Entails.of_eq (pieces key h f)).trans (hf f))
  iexact H

/-! ## Buffers and pieces -/

/-- The kernel's scratch buffers, each whole at some contents. -/
def scratches (c : Dev nD) : sProp 𝕄 :=
  iprop((∃ f, all (F := F) c xM f) ∗ (∃ f, all (F := F) c wqM f) ∗ (∃ f, all (F := F) c woM f) ∗ (∃ f, all (F := F) c wqbM f) ∗ (∃ f, all (F := F) c wobM f)
    ∗ (∃ f, all (F := F) c kM f) ∗ (∃ f, all (F := F) c vM f) ∗ (∃ f, all (F := F) c ctxM f) ∗ (∃ f, all (F := F) c sendM f) ∗ (∃ f, all (F := F) c rsM f)
    ∗ (∃ f, all (F := F) c redM f) ∗ (∃ f, all (F := F) c agM f) ∗ (∃ f, all (F := F) c accM f))

/-- The arrays the kernel reads in place. -/
def hbm (c : Dev nD) : sProp 𝕄 :=
  iprop(all c xH (V c main_arg0) ∗ all c wqH (V c main_arg1) ∗ all c kH (V c main_v2) ∗ all c vH (V c main_v4) ∗ all c woH (V c main_arg4))

/-- What of them no load touches. -/
def restHbm (c : Dev nD) : sProp 𝕄 :=
  iprop(pts c wqH (Finset.univ \ (wqSrc c).view.set) (V c main_arg1) ∗ pts c woH (Finset.univ \ (woSrc c).view.set) (V c main_arg4))

theorem xSrc_set : xSrc.view.set = Finset.univ := by
  rw [show xSrc.view.set = _ from (Memref.set_view_squeeze _ _).trans (View.set_slice_whole main_arg0 _)]
  exact Finset.eq_univ_iff_forall.mpr fun i => Rect.mem_set_unit.mpr fun a => ⟨by fin_cases a <;> exact Nat.zero_le _, by
    have := (i a).isLt; fin_cases a <;> exact (Nat.lt_of_lt_of_eq this (Nat.zero_add _).symm)⟩

theorem wq_split (c : Dev nD) (f) : all (F := F) c wqH f = iprop(srcP c (wqSrc c) f ∗ pts c wqH (Finset.univ \ (wqSrc c).view.set) f) :=
  have h := pointsTo_split_subset (ℓ := wqH.view.loc (c : Thread nD τ)) (q := fullShare) (f := f) (Finset.subset_univ (wqSrc c).view.set)
  BI.equiv_iff.mp ⟨h.1, h.2⟩
theorem wo_split (c : Dev nD) (f) : all (F := F) c woH f = iprop(srcP c (woSrc c) f ∗ pts c woH (Finset.univ \ (woSrc c).view.set) f) :=
  have h := pointsTo_split_subset (ℓ := woH.view.loc (c : Thread nD τ)) (q := fullShare) (f := f) (Finset.subset_univ (woSrc c).view.set)
  BI.equiv_iff.mp ⟨h.1, h.2⟩

theorem kH_cols (c : Dev nD) (f) : all (F := F) c kH f = bigSep Finset.univ fun h : Fin 8 => srcP c (headSrc kH h) f :=
  pieces (ℓ := kH.view.loc (c : Thread nD τ)) hcolKey (fun h i => by rw [View.set_slice_whole]; exact hcol_mem h i) f
theorem vH_cols (c : Dev nD) (f) : all (F := F) c vH f = bigSep Finset.univ fun h : Fin 8 => srcP c (headSrc vH h) f :=
  pieces (ℓ := vH.view.loc (c : Thread nD τ)) hcolKey (fun h i => by rw [View.set_slice_whole]; exact hcol_mem h i) f
theorem kM_slabs (c : Dev nD) (f) : all (F := F) c kM f = bigSep Finset.univ fun h : Fin 8 => srcP c (headDst kM h) f :=
  pieces (ℓ := kM.view.loc (c : Thread nD τ)) slabKey (fun h i => by rw [set_kM]; exact slab_mem h i) f
theorem vM_slabs (c : Dev nD) (f) : all (F := F) c vM f = bigSep Finset.univ fun h : Fin 8 => srcP c (headDst vM h) f :=
  pieces (ℓ := vM.view.loc (c : Thread nD τ)) slabKey (fun h i => by rw [set_vM]; exact slab_mem h i) f
theorem sendM_slots (c : Dev nD) (f) : all (F := F) c sendM f = bigSep Finset.univ fun s : Fin 7 => slotPts sendM c s f :=
  pieces (ℓ := sendM.view.loc (c : Thread nD τ)) slotKey (fun s i => by rw [set_sendM]; exact slot_mem s i) f
theorem rsM_slots (c : Dev nD) (f) : all (F := F) c rsM f = bigSep Finset.univ fun s : Fin 7 => slotPts rsM c s f :=
  pieces (ℓ := rsM.view.loc (c : Thread nD τ)) slotKey (fun s i => by rw [set_rsM]; exact slot_mem s i) f
theorem agM_slots (c : Dev nD) (f) : all (F := F) c agM f = bigSep Finset.univ fun s : Fin 7 => slotPts agM c s f :=
  pieces (ℓ := agM.view.loc (c : Thread nD τ)) slotKey (fun s i => by rw [set_agM]; exact slot_mem s i) f
theorem outM_rows (c : Dev nD) (f) : all (F := F) c outM f = bigSep Finset.univ fun j : Fin 8 => outPts c j f :=
  pieces (ℓ := outM.view.loc (c : Thread nD τ)) (outKey c) (fun j i => by rw [set_acc]; exact out_mem c j i) f
theorem kM_open (c : Dev nD) : (iprop(∃ f, all (F := F) c kM f) : sProp 𝕄) ⊢ bigSep Finset.univ fun h : Fin 8 => dstE (F := F) c (headDst kM h) :=
  pieces_open (ℓ := kM.view.loc (c : Thread nD τ)) slabKey (fun h i => by rw [set_kM]; exact slab_mem h i)
theorem vM_open (c : Dev nD) : (iprop(∃ f, all (F := F) c vM f) : sProp 𝕄) ⊢ bigSep Finset.univ fun h : Fin 8 => dstE (F := F) c (headDst vM h) :=
  pieces_open (ℓ := vM.view.loc (c : Thread nD τ)) slabKey (fun h i => by rw [set_vM]; exact slab_mem h i)
theorem sendM_open (c : Dev nD) : (iprop(∃ f, all (F := F) c sendM f) : sProp 𝕄) ⊢ bigSep Finset.univ fun s : Fin 7 => dstE (F := F) c (slotM sendM s) :=
  pieces_open (ℓ := sendM.view.loc (c : Thread nD τ)) slotKey (fun s i => by rw [set_sendM]; exact slot_mem s i)
theorem rsM_open (c : Dev nD) : (iprop(∃ f, all (F := F) c rsM f) : sProp 𝕄) ⊢ bigSep Finset.univ fun s : Fin 7 => iprop(∃ f, slotPts (F := F) rsM c s f) :=
  pieces_open (ℓ := rsM.view.loc (c : Thread nD τ)) slotKey (fun s i => by rw [set_rsM]; exact slot_mem s i)
theorem agM_open (c : Dev nD) : (iprop(∃ f, all (F := F) c agM f) : sProp 𝕄) ⊢ bigSep Finset.univ fun s : Fin 7 => iprop(∃ f, slotPts (F := F) agM c s f) :=
  pieces_open (ℓ := agM.view.loc (c : Thread nD τ)) slotKey (fun s i => by rw [set_agM]; exact slot_mem s i)
theorem outM_open (c : Dev nD) : (iprop(∃ f, all (F := F) c outM f) : sProp 𝕄) ⊢ bigSep Finset.univ fun j : Fin 8 => iprop(∃ f, outPts (F := F) c j f) :=
  pieces_open (ℓ := outM.view.loc (c : Thread nD τ)) (outKey c) (fun j i => by rw [set_acc]; exact out_mem c j i)
theorem ctxM_open (c : Dev nD) : (iprop(∃ f, all (F := F) c ctxM f) : sProp 𝕄) ⊢ bigSep Finset.univ fun h : Fin 8 => ctxE (F := F) c h :=
  pieces_open (ℓ := ctxM.view.loc (c : Thread nD τ)) ctxKey (fun h i => by rw [set_acc]; exact ctx_mem h i)
include V in
theorem ctx_join (c : Dev nD) : bigSep Finset.univ (ctxE (F := F) c) ⊢ iprop(∃ f, all (F := F) c ctxM f) :=
  pieces_join (ℓ := ctxM.view.loc (c : Thread nD τ)) ctxKey (fun h i => by rw [set_acc]; exact ctx_mem h i) (ctxC V c 0)

theorem x_all (c : Dev nD) (f) : srcP (F := F) c xSrc f = all c xH f := by
  show (xH.view.loc (c : Thread nD τ) ↦[xSrc.view.set]{fullShare} f : sProp 𝕄) = _
  rw [xSrc_set]
theorem whole_all (b : Ref sig .tc) (c : Dev nD) (f) : pts (F := F) c (Memref.whole b) (Memref.whole b).view.set f = all c (Memref.whole b) f := by
  rw [show (Memref.whole b).view.set = Finset.univ from View.set_whole _]

/-! ## Entering -/

/-- The token of an own cell's one round. -/
abbrev tok (c : Dev nD) (o : Own) : sProp 𝕄 := dutyTok ER (ownC' c o) 0 (0 : Fin 7)

/-- The kernel's cells before their one round: the tokens a device pays with, -/
def pay (c : Dev nD) : sProp 𝕄 :=
  iprop(bigSep Finset.univ (fun s : Fin 7 => dutyTok ER (barC (fwd c s)) 0 s.rev)
    ∗ (tok (F := F) c (ldO 0) ∗ tok (F := F) c (ldO 1) ∗ tok (F := F) c (ldO 2))
    ∗ (bigSep Finset.univ (fun h => tok (F := F) c (kvO 0 h)) ∗ bigSep Finset.univ (fun h => tok (F := F) c (kvO 1 h)))
    ∗ (bigSep Finset.univ (fun s => tok (F := F) c (exO 0 s)) ∗ bigSep Finset.univ (fun s => tok (F := F) (fwd c s) (exO 1 s))
      ∗ bigSep Finset.univ (fun s => tok (F := F) c (exO 2 s)) ∗ bigSep Finset.univ (fun s => tok (F := F) (fwd c s) (exO 3 s))))
/-- the credits it waits with, -/
def creds (c : Dev nD) : sProp 𝕄 :=
  iprop(cred (tallyAt (barC c) () 7) ∗ bigSep Finset.univ (fun s : Fin 7 => cred (tallyAt (ownC' c (exO 1 s)) () (amt (exO 1 s))))
    ∗ bigSep Finset.univ (fun s : Fin 7 => cred (tallyAt (ownC' c (exO 3 s)) () (amt (exO 3 s)))))
/-- and the cells it has opened. -/
def opened (c : Dev nD) : sProp 𝕄 :=
  iprop(pay (F := F) c ∗ creds (F := F) c ∗ atPos ER (barC c) 0 (∅ : Finset (Fin 7)) 0
    ∗ bigSep Finset.univ (fun o : Own => atPos ER (ownC' c o) 0 (∅ : Finset (Fin 7)) 0))

abbrev posO (c : Dev nD) (o : Own) : sProp 𝕄 := atPos ER (ownC' c o) 0 (∅ : Finset (Fin 7)) 0

theorem enter_loads (c : Dev nD) :
    iprop((all c xH (V c main_arg0) ∗ all c wqH (V c main_arg1) ∗ all c woH (V c main_arg4))
        ∗ ((∃ f, all (F := F) c xM f) ∗ (∃ f, all (F := F) c wqM f) ∗ (∃ f, all (F := F) c woM f))
        ∗ (tok (F := F) c (ldO 0) ∗ tok (F := F) c (ldO 1) ∗ tok (F := F) c (ldO 2)) ∗ (posO (F := F) c (ldO 0) ∗ posO (F := F) c (ldO 1) ∗ posO (F := F) c (ldO 2)))
      ⊢ iprop(ldTodo V c ∗ restHbm V c) := by
  unfold ldTodo restHbm idle
  rw [wq_split, wo_split, ← x_all]
  iintro ⟨⟨Hx, ⟨Hq, Rq⟩, ⟨Ho, Ro⟩⟩, ⟨⟨%fx, Sx⟩, ⟨%fq, Sq⟩, ⟨%fo, So⟩⟩, ⟨T0, T1, T2⟩, ⟨P0, P1, P2⟩⟩
  ihave Sx := (Entails.of_eq (whole_all cc0_scratch0 c fx).symm) $$ Sx
  ihave Sq := (Entails.of_eq (whole_all cc0_scratch1 c fq).symm) $$ Sq
  ihave So := (Entails.of_eq (whole_all cc0_scratch2 c fo).symm) $$ So
  isplitr [Rq Ro]
  · isplitl [Hx Sx T0 P0]
    · isplitl [Hx]; · iexact Hx
      isplitl [Sx]; · iexists fx; iexact Sx
      isplitl [T0]; · iexact T0
      iexact P0
    isplitl [Hq Sq T1 P1]
    · isplitl [Hq]; · iexact Hq
      isplitl [Sq]; · iexists fq; iexact Sq
      isplitl [T1]; · iexact T1
      iexact P1
    · isplitl [Ho]; · iexact Ho
      isplitl [So]; · iexists fo; iexact So
      isplitl [T2]; · iexact T2
      iexact P2
  · isplitl [Rq]; · iexact Rq
    iexact Ro

theorem enter_heads (c : Dev nD) :
    iprop((all c kH (V c main_v2) ∗ all c vH (V c main_v4)) ∗ ((∃ f, all (F := F) c kM f) ∗ (∃ f, all (F := F) c vM f))
        ∗ (bigSep Finset.univ (fun h => tok (F := F) c (kvO 0 h)) ∗ bigSep Finset.univ (fun h => tok (F := F) c (kvO 1 h)))
        ∗ (bigSep Finset.univ (fun h => posO (F := F) c (kvO 0 h)) ∗ bigSep Finset.univ (fun h => posO (F := F) c (kvO 1 h))))
      ⊢ bigSep Finset.univ (headTodo V c) := by
  unfold headTodo idle
  rw [kH_cols, vH_cols]
  simp only [bigSep_sep']
  iintro ⟨⟨Hk, Hv⟩, ⟨Sk, Sv⟩, ⟨Tk, Tv⟩, ⟨Pk, Pv⟩⟩
  ihave Sk := (kM_open c) $$ Sk
  ihave Sv := (vM_open c) $$ Sv
  isplitl [Hk Sk Tk Pk]
  · isplitl [Hk]; · iexact Hk
    isplitl [Sk]; · iexact Sk
    isplitl [Tk]; · iexact Tk
    iexact Pk
  · isplitl [Hv]; · iexact Hv
    isplitl [Sv]; · iexact Sv
    isplitl [Tv]; · iexact Tv
    iexact Pv

theorem enter_bar (c : Dev nD) :
    iprop(((∃ f, all (F := F) c rsM f) ∗ (∃ f, all (F := F) c agM f)) ∗ bigSep Finset.univ (fun s : Fin 7 => dutyTok ER (barC (fwd c s)) 0 s.rev))
      ⊢ (bigSep Finset.univ (barTodo (F := F) c) : sProp 𝕄) := by
  unfold barTodo slotsOf
  simp only [bigSep_sep']
  iintro ⟨⟨Sr, Sa⟩, Tb⟩
  ihave Sr := ((rsM_open c).trans (Entails.of_eq (rev_slots _))) $$ Sr
  ihave Sa := ((agM_open c).trans (Entails.of_eq (rev_slots _))) $$ Sa
  isplitl [Sr Sa]
  · isplitl [Sr]; · iexact Sr
    iexact Sa
  · iexact Tb

theorem enter_slots (c : Dev nD) :
    iprop((∃ f, all (F := F) c sendM f) ∗ (bigSep Finset.univ (fun s => tok (F := F) c (exO 0 s)) ∗ bigSep Finset.univ (fun s => tok (F := F) (fwd c s) (exO 1 s))
        ∗ bigSep Finset.univ (fun s => tok (F := F) c (exO 2 s)) ∗ bigSep Finset.univ (fun s => tok (F := F) (fwd c s) (exO 3 s)))
        ∗ (bigSep Finset.univ (fun s => posO (F := F) c (exO 0 s)) ∗ bigSep Finset.univ (fun s => posO (F := F) c (exO 2 s))))
      ⊢ (bigSep Finset.univ (slotTodo (F := F) c) : sProp 𝕄) := by
  unfold slotTodo idle
  simp only [bigSep_sep']
  iintro ⟨Ss, ⟨T0, T1, T2, T3⟩, P0, P2⟩
  ihave Ss := (sendM_open c) $$ Ss
  isplitl [Ss T0 P0 T1]
  · isplitl [Ss]; · iexact Ss
    isplitl [T0 P0]
    · isplitl [T0]; · iexact T0
      iexact P0
    · iexact T1
  · isplitl [T2 P2]
    · isplitl [T2]; · iexact T2
      iexact P2
    · iexact T3

theorem enter_fresh (c : Dev nD) (a : Fin 4) :
    iprop(bigSep Finset.univ (fun s : Fin 7 => cred (tallyAt (ownC' c (exO a s)) () (amt (exO a s)))) ∗ bigSep Finset.univ (fun s => posO (F := F) c (exO a s)))
      ⊢ (bigSep Finset.univ (fun s => fresh (F := F) c (exO a s)) : sProp 𝕄) := Entails.of_eq (bigSep_sep' _ _ _).symm

theorem enter_rows (c : Dev nD) :
    iprop(∃ f, all (F := F) c outM f) ⊢ (iprop((∃ f, outPts (F := F) c 0 f) ∗ bigSep Finset.univ (fun s : Fin 7 => iprop(∃ f, outPts (F := F) c s.succ f))) : sProp 𝕄) :=
  (outM_open c).trans (Entails.of_eq (block_split _))

/-- What the body starts with, and the parts of the projections' arrays no load touches. -/
theorem enter (c : Dev nD) :
    iprop(opened (F := F) c ∗ scratches (F := F) c ∗ hbm V c ∗ (∃ f, all (F := F) c outM f) ∗ ow (F := F) c (O₀ c)) ⊢ iprop(bodyPre V c ∗ restHbm V c) := by
  unfold opened pay creds scratches hbm bodyPre
  rw [own_split (fun o : Own => atPos ER (ownC' c o) 0 (∅ : Finset (Fin 7)) 0)]
  iintro ⟨⟨⟨Tb, Tl, Tkv, T0, T1, T2, T3⟩, ⟨Cb, C1, C3⟩, Pb, Pl, Pkv, P0, P1, P2, P3⟩,
    ⟨Sx, Sq, So, Sqb, Sob, Sk, Sv, Sc, Ss, Sr, Sred, Sa, Sacc⟩, ⟨Hx, Hq, Hk, Hv, Ho⟩, HO, How⟩
  ihave HO := (enter_rows c) $$ HO
  icases HO with ⟨HO0, HO⟩
  ihave Hl := (enter_loads V c) $$ [Hx Hq Ho Sx Sq So Tl Pl]
  · isplitl [Hx Hq Ho]
    · isplitl [Hx]; · iexact Hx
      isplitl [Hq]; · iexact Hq
      iexact Ho
    isplitl [Sx Sq So]
    · isplitl [Sx]; · iexact Sx
      isplitl [Sq]; · iexact Sq
      iexact So
    isplitl [Tl]; · iexact Tl
    iexact Pl
  icases Hl with ⟨Hl, HR⟩
  isplitr [HR]
  rotate_left
  · iexact HR
  isplitl [How]; · iexact How
  isplitl [Hl]; · iexact Hl
  isplitl [Hk Hv Sk Sv Tkv Pkv]
  · iapply (enter_heads V c)
    isplitl [Hk Hv]
    · isplitl [Hk]; · iexact Hk
      iexact Hv
    isplitl [Sk Sv]
    · isplitl [Sk]; · iexact Sk
      iexact Sv
    isplitl [Tkv]; · iexact Tkv
    iexact Pkv
  isplitl [Sr Sa Tb Cb Pb]
  · isplitl [Sr Sa Tb]
    · iapply (enter_bar c)
      isplitl [Sr Sa]
      · isplitl [Sr]; · iexact Sr
        iexact Sa
      · iexact Tb
    isplitl [Cb]; · iexact Cb
    iexact Pb
  isplitl [Ss T0 P0 T1 T2 P2 T3]
  · iapply (enter_slots c)
    isplitl [Ss]; · iexact Ss
    isplitl [T0 T1 T2 T3]
    · isplitl [T0]; · iexact T0
      isplitl [T1]; · iexact T1
      isplitl [T2]; · iexact T2
      iexact T3
    isplitl [P0]; · iexact P0
    iexact P2
  isplitl [C1 P1]
  · iapply (enter_fresh c 1)
    isplitl [C1]; · iexact C1
    iexact P1
  isplitl [C3 P3]
  · iapply (enter_fresh c 3)
    isplitl [C3]; · iexact C3
    iexact P3
  isplitl [Sqb Sob Sc Sacc Sred]
  · isplitl [Sqb]; · iexact Sqb
    isplitl [Sob]; · iexact Sob
    isplitl [Sc]; · iapply (ctxM_open c); iexact Sc
    isplitl [Sacc]; · iexact Sacc
    iexact Sred
  isplitl [HO0]; · iexact HO0
  iexact HO

/-! ## Leaving -/

theorem red_join (c : Dev nD) :
    iprop((redM.view.loc (c : Thread nD τ) ↦[redM.view.set]{Transfers.shareDrop fullShare 7} redC V c)
      ∗ bigSep Finset.univ (fun s : Fin 7 => redM.view.loc (c : Thread nD τ) ↦[redM.view.set]{redShare s} redC V c)) ⊢ all c redM (redC V c) := by
  rw [show redM.view.set = Finset.univ from View.set_whole _]
  exact (Transfers.pointsTo_toks fullShare 7).2

set_option maxHeartbeats 1000000 in
/-- What the body ends with: every cell past its round, every buffer whole. -/
theorem leave (c : Dev nD) :
    iprop(bodyPost V c ∗ restHbm V c) ⊢ iprop(ow (F := F) c 0 ∗ atPos ER (barC c) (0 + 1) (∅ : Finset (Fin 7)) 0 ∗ bigSep Finset.univ (used (F := F) c)
      ∗ scratches (F := F) c ∗ hbm V c ∗ all c outM (outC V c)) := by
  unfold bodyPost slotDone firstDone operands backRs backAg headUsed restHbm scratches hbm
  rw [own_split (used (F := F) c), outM_rows c (outC V c), block_split (fun j => outPts c j (outC V c)), rev_slots (fun s : Fin 7 => outPts (F := F) c s.succ (outC V c)),
    kH_cols c (V c main_v2), vH_cols c (V c main_v4), wq_split c (V c main_arg1), wo_split c (V c main_arg4)]
  simp only [bigSep_sep']
  iintro ⟨⟨How, Hb, ⟨⟨U0, Ss⟩, ⟨U2, Sred⟩, ⟨U1, Sr⟩, U3, Sa, HO⟩, ⟨⟨L0, L1⟩, ⟨Hx, Hq⟩, Sq⟩, ⟨⟨⟨Uk, Uv⟩, Hk, Hv⟩, L2, Ho, So⟩,
    ⟨Sx, Sqb, Sob, Sk, Sv, Sc⟩, Sacc, Sred0, HO0⟩, Rq, Ro⟩
  ihave Hx := (Entails.of_eq (x_all c (V c main_arg0))) $$ Hx
  ihave Sk := (Entails.of_eq (kM_slabs c (kC V c)).symm) $$ Sk
  ihave Sv := (Entails.of_eq (vM_slabs c (vC V c)).symm) $$ Sv
  ihave Sc := (ctx_join V c) $$ Sc
  ihave Ss := (Entails.of_eq (sendM_slots c (sendC V c)).symm) $$ Ss
  ihave Sr := (Entails.of_eq (rsM_slots c (rsC V c)).symm) $$ Sr
  ihave Sa := (Entails.of_eq (agM_slots c (agC V c)).symm) $$ Sa
  ihave Sred := (red_join V c) $$ [Sred0 Sred]
  · isplitl [Sred0]; · iexact Sred0
    iexact Sred
  isplitl [How]; · iexact How
  isplitl [Hb]; · iexact Hb
  isplitl [L0 L1 L2 Uk Uv U0 U1 U2 U3]
  · isplitl [L0 L1 L2]
    · isplitl [L0]; · iexact L0
      isplitl [L1]; · iexact L1
      iexact L2
    isplitl [Uk Uv]
    · isplitl [Uk]; · iexact Uk
      iexact Uv
    isplitl [U0]; · iexact U0
    isplitl [U1]; · iexact U1
    isplitl [U2]; · iexact U2
    iexact U3
  isplitl [Sx Sq So Sqb Sob Sk Sv Sc Ss Sr Sred Sa Sacc]
  · isplitl [Sx]; · iexists _; iexact Sx
    isplitl [Sq]; · iexists _; iexact Sq
    isplitl [So]; · iexists _; iexact So
    isplitl [Sqb]; · iexists _; iexact Sqb
    isplitl [Sob]; · iexists _; iexact Sob
    isplitl [Sk]; · iexists _; iexact Sk
    isplitl [Sv]; · iexists _; iexact Sv
    isplitl [Sc]; · iexact Sc
    isplitl [Ss]; · iexists _; iexact Ss
    isplitl [Sr]; · iexists _; iexact Sr
    isplitl [Sred]; · iexists _; iexact Sred
    isplitl [Sa]; · iexists _; iexact Sa
    iexists _; iexact Sacc
  isplitl [Hx Hq Rq Hk Hv Ho Ro]
  · isplitl [Hx]; · iexact Hx
    isplitl [Hq Rq]
    · isplitl [Hq]; · iexact Hq
      iexact Rq
    isplitl [Hk]; · iexact Hk
    isplitl [Hv]; · iexact Hv
    isplitl [Ho]; · iexact Ho
    iexact Ro
  isplitl [HO0]; · iexact HO0
  iexact HO

/-! ## Closing -/

/-- Every cell of the device closed: its counter at zero. -/
theorem close (c : Dev nD) :
    iprop(Ctx V K c ∗ atPos ER (barC c) (0 + 1) (∅ : Finset (Fin 7)) 0 ∗ bigSep Finset.univ (used (F := F) c))
      ⊢ |={Set.univ}=> iprop(semVal (barC c) 0 ∗ bigSep Finset.univ (fun o : Own => semVal (ownC' c o) 0) : sProp 𝕄) := by
  have hb : iprop(Ctx V K c ∗ atPos ER (barC c) (0 + 1) (∅ : Finset (Fin 7)) 0) ⊢ |={Set.univ}=> (semVal (barC c) 0 : sProp 𝕄) :=
    (sep_mono_l (ctx_invBar V K c c)).trans (Rounds.cell_close ER (swaRd V) (Set.mem_univ _) id (duties_later V _))
  have ho : iprop(Ctx V K c ∗ bigSep Finset.univ (used (F := F) c)) ⊢ |={Set.univ}=> (bigSep Finset.univ (fun o : Own => semVal (ownC' c o) 0) : sProp 𝕄) :=
    (bigSep_with_persistent (Ψ := fun o : Own => iprop(|={Set.univ}=> semVal (ownC' c o) 0)) fun o _ =>
      (sep_mono_l (ctx_inv V K c c o)).trans (Rounds.cell_close ER (swaRd V) (Set.mem_univ _) id (duties_later V _))).trans (bigSep_fupd _ _)
  iintro ⟨#HC, Hb, Hu⟩
  imod hb $$ [Hb] with Hb
  · isplitr; · iexact HC
    iexact Hb
  imod ho $$ [Hu] with Hu
  · isplitr; · iexact HC
    iexact Hu
  imodintro
  isplitl [Hb]; · iexact Hb
  iexact Hu

theorem ret_wp (c : Dev nD) (Q : PUnit → sProp 𝕄) : iprop(|={Set.univ}=> Q ⟨⟩) ⊢ Wp (F := F) c (.ret ⟨⟩) Q := .rfl

theorem device_wp (c : Dev nD) (k : Dev nD → P F PUnit) (Q : PUnit → sProp 𝕄) : Wp c (k c) Q ⊢ Wp c (do let c ← Prog.lift .deviceId; k c) Q := by
  simp only [Prog.lift, Prog.bind_op, Prog.bind_ret]
  exact Entails.of_eq (wp_deviceId 𝒱₀ (c : Thread nD τ) none Set.univ).symm

/-- The whole body: from the launch's state to the closed cells and the result. -/
theorem body_wp (c : Dev nD) (Q : PUnit → sProp 𝕄) :
    iprop(Ctx V K c ∗ (opened (F := F) c ∗ scratches (F := F) c ∗ hbm V c ∗ (∃ f, all (F := F) c outM f) ∗ ow (F := F) c (O₀ c))
        ∗ ((ow (F := F) c 0 ∗ (semVal (barC c) 0 ∗ bigSep Finset.univ (fun o : Own => semVal (ownC' c o) 0))
          ∗ scratches (F := F) c ∗ hbm V c ∗ all c outM (outC V c)) -∗ Q ⟨⟩))
      ⊢ Wp c body Q := by
  unfold body
  refine BIBase.Entails.trans ?_ (device_wp c bodyAt Q)
  rw [show bodyAt (F := F) c = bodyAt c >>= Prog.ret from (bind_pure _).symm]
  iintro ⟨#HC, Hpre, HQ⟩
  ihave Hpre := (enter V c) $$ Hpre
  icases Hpre with ⟨Hpre, HR⟩
  iapply (Wp_bind c)
  iapply (bodyAt_wp V K c)
  isplitr; · iexact HC
  isplitl [Hpre]; · iexact Hpre
  iintro Hpost
  ihave H := (leave V c) $$ [Hpost HR]
  · isplitl [Hpost]; · iexact Hpost
    iexact HR
  icases H with ⟨How, Hb, Hu, Hs, Hh, HO⟩
  ihave Hcl := (close V K c) $$ [Hb Hu]
  · isplitr; · iexact HC
    isplitl [Hb]; · iexact Hb
    iexact Hu
  iapply (ret_wp c Q)
  imod Hcl with Hcl
  imodintro
  iapply HQ
  isplitl [How]; · iexact How
  isplitl [Hcl]; · iexact Hcl
  isplitl [Hs]; · iexact Hs
  isplitl [Hh]; · iexact Hh
  iexact HO

end Cert.KernelIdeal.Swa

end
-- ==== Proof.Swa.Deal.lean ====
/-
  The launch's ghost state dealt to the devices: invariants of every cell, tokens to those who pay, credits to those who wait.
-/
module

public import proofs.«01_k».proof.Proof.Swa.Enter
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F)) (K : GSem nD τ sig → ℕ)

/-! ## The cells and the tokens -/

def barEmb : Dev nD ↪ GSem nD τ sig := ⟨barC, fun _ _ h => congrArg (fun g : GSem nD τ sig => g.1.1) h⟩
def ownEmb : Dev nD × Own ↪ GSem nD τ sig := ⟨fun p => ownC' p.1 p.2, fun _ _ h =>
  Prod.ext (congrArg (fun g : GSem nD τ sig => g.1.1) h) (osem_inj (congrArg Prod.snd h))⟩

/-- The barrier cells are in use from the launch on; the kernel opens its own. -/
abbrev barCells : Finset (GSem nD τ sig) := Finset.univ.map barEmb
abbrev ownCells : Finset (GSem nD τ sig) := Finset.univ.map ownEmb

/-- A payment: to an own cell, or for one of the barrier's seven units. -/
abbrev dueSem : Own ⊕ Fin 7 → SemLoc sig := Sum.elim osem fun _ => .reg barSem
abbrev dueNo : Own ⊕ Fin 7 → Fin 7 := Sum.elim (fun _ => 0) id
theorem due_inj {k k' : Own ⊕ Fin 7} (h : dueSem k = dueSem k') (h' : dueNo k = dueNo k') : k = k' := by
  rcases k with o | e <;> rcases k' with o' | e'
  · exact congrArg Sum.inl (osem_inj h)
  · exact absurd h (osem_ne_bar o)
  · exact absurd h.symm (osem_ne_bar o')
  · exact congrArg Sum.inr h'
def dueEmb : Dev nD × (Own ⊕ Fin 7) ↪ GSem nD τ sig × ℕ × Fin 7 := ⟨fun p => (((p.1 : Thread nD τ), dueSem p.2), 0, dueNo p.2), fun _ _ h =>
  Prod.ext (congrArg (fun t : GSem nD τ sig × ℕ × Fin 7 => t.1.1.1) h)
    (due_inj (congrArg (fun t : GSem nD τ sig × ℕ × Fin 7 => t.1.2) h) (congrArg (fun t : GSem nD τ sig × ℕ × Fin 7 => t.2.2) h))⟩
def talkToks : Finset (GSem nD τ sig × ℕ × Fin 7) := Finset.univ.map dueEmb

theorem disjoint_cells : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-! ## Tokens to those who pay -/

/-- The peer `s + 1` places after, as a permutation of the devices. -/
def fwdE (s : Fin 7) : Dev nD ≃ Dev nD where
  toFun c := fwd c s
  invFun c := fwd c s.rev
  left_inv c := fwd_rev c s
  right_inv c := by have h := fwd_rev c s.rev; rwa [Fin.rev_rev] at h

theorem around (Φ : Dev nD → Fin 7 → sProp 𝕄) :
    (bigSep Finset.univ fun c => bigSep Finset.univ fun s => Φ c s) = bigSep Finset.univ fun c => bigSep Finset.univ fun s => Φ (fwd c s) s := by
  rw [Pipeline.bigSep_univ_comm Φ, Pipeline.bigSep_univ_comm (fun c s => Φ (fwd c s) s)]
  exact bigSep_congr fun s _ => bigSep_univ_equiv (fwdE s) (fun c => Φ c s)

theorem pair {ι : Type} [Fintype ι] [DecidableEq ι] (Φ Ψ : ι → sProp 𝕄) :
    iprop(bigSep Finset.univ Φ ∗ bigSep Finset.univ Ψ) ⊢ bigSep Finset.univ (fun i => iprop(Φ i ∗ Ψ i)) := Entails.of_eq (bigSep_sep' _ _ _).symm

theorem swap (A B : sProp 𝕄) : iprop(A ∗ B) = iprop(B ∗ A) := BI.equiv_iff.mp ⟨show iprop(A ∗ B) ⊢ iprop(B ∗ A) from sep_comm.1, show iprop(B ∗ A) ⊢ iprop(A ∗ B) from sep_comm.1⟩

theorem toks_eq : bigSep talkToks (fun x => (dutyTok ER x.1 x.2.1 x.2.2 : sProp 𝕄)) = bigSep Finset.univ (pay (F := F)) := by
  have hb : (bigSep Finset.univ fun c : Dev nD => bigSep Finset.univ fun e : Fin 7 => (dutyTok ER (barC c) 0 e : sProp 𝕄))
      = bigSep Finset.univ fun c : Dev nD => bigSep Finset.univ fun s : Fin 7 => dutyTok ER (barC (fwd c s)) 0 s.rev := by
    rw [← around (fun c s => (dutyTok ER (barC c) 0 s.rev : sProp 𝕄))]
    exact bigSep_congr fun c _ => rev_slots _
  have hx (a : Fin 4) : (bigSep Finset.univ fun c : Dev nD => bigSep Finset.univ fun s : Fin 7 => tok (F := F) c (exO a s))
      = bigSep Finset.univ fun c : Dev nD => bigSep Finset.univ fun s : Fin 7 => tok (F := F) (fwd c s) (exO a s) := around (fun c s => tok (F := F) c (exO a s))
  have hd : bigSep talkToks (fun x => (dutyTok ER x.1 x.2.1 x.2.2 : sProp 𝕄))
      = bigSep Finset.univ fun c : Dev nD => iprop(bigSep Finset.univ (tok (F := F) c) ∗ bigSep Finset.univ fun e : Fin 7 => dutyTok ER (barC c) 0 e) := by
    unfold talkToks
    rw [bigSep_map, bigSep_univ_prod]
    exact bigSep_congr fun c _ => by rw [bigSep_univ_sum]; rfl
  rw [hd]
  unfold pay
  simp only [own_split (tok (F := F) _), bigSep_sep']
  rw [hb, ← hx 1, ← hx 3]
  exact swap _ _

/-! ## Credits to those who wait -/

theorem tail_apply (gs : Fin 7 → GSem nD τ sig) (N : ℕ) (g : GSem nD τ sig) : tail gs N 0 g () = ∑ s, if g = gs s then N else 0 := by
  unfold tail
  rw [Finset.filter_true_of_mem (fun s _ => Nat.zero_le _), Finset.sum_apply, Finsupp.finset_sum_apply]
  exact Finset.sum_congr rfl fun s _ => by rw [tallyAt_apply]; simp only [and_true]

theorem fwd_iff (c d : Dev nD) (s : Fin 7) : c = fwd d s ↔ d = fwd c s.rev :=
  ⟨fun h => by rw [h, fwd_rev], fun h => by rw [h]; have h := fwd_rev c s.rev; rw [Fin.rev_rev] at h; exact h.symm⟩

/-- Over the devices, each place after is met once. -/
theorem sum_fwd (c : Dev nD) (s : Fin 7) (n : ℕ) : (∑ d : Dev nD, if c = fwd d s then n else 0) = n := by
  rw [Finset.sum_congr rfl fun d _ => if_congr (fwd_iff c d s) rfl rfl, Finset.sum_ite_eq', if_pos (Finset.mem_univ _)]

theorem owed_bar (c : Dev nD) : ∑ d : Dev nD, O₀ d (barC c) () = 7 := by
  have h (d : Dev nD) : O₀ d (barC c) () = ∑ s : Fin 7, if c = fwd d s then 1 else 0 := by
    unfold O₀
    rw [Pi.add_apply, Pi.add_apply, Finsupp.add_apply, Finsupp.add_apply, tail_apply, tail_apply, tail_apply,
      Finset.sum_eq_zero fun s _ => if_neg fun h => osem_ne_bar (exO 3 s) (congrArg Prod.snd h).symm,
      Finset.sum_eq_zero fun s _ => if_neg fun h => osem_ne_bar (exO 1 s) (congrArg Prod.snd h).symm, zero_add, zero_add]
    exact Finset.sum_congr rfl fun s _ => if_congr ⟨fun h => congrArg (fun g : GSem nD τ sig => g.1.1) h, fun h => by rw [← h]⟩ rfl rfl
  simp only [h]
  rw [Finset.sum_comm]
  simp only [sum_fwd]
  rfl

theorem own_iff {c c' : Dev nD} {o o' : Own} : ownC' c o = ownC' c' o' ↔ c = c' ∧ o = o' :=
  ⟨fun h => ⟨congrArg (fun g : GSem nD τ sig => g.1.1) h, osem_inj (congrArg Prod.snd h)⟩, fun h => by rw [h.1, h.2]⟩

theorem tail_arrive (a : Fin 4) (c d : Dev nD) (s : Fin 7) :
    tail (fun s => ownC' (fwd d s) (exO a s)) N7 0 (ownC' c (exO a s)) () = if c = fwd d s then N7 else 0 := by
  rw [tail_apply, Finset.sum_eq_single s (fun s' _ hs => if_neg fun h => hs (by have := (own_iff.mp h).2; simp only [Sum.inr.injEq, Prod.mk.injEq, true_and] at this; exact this.symm))
    (fun h => absurd (Finset.mem_univ s) h)]
  exact if_congr ⟨fun h => (own_iff.mp h).1, fun h => own_iff.mpr ⟨h, rfl⟩⟩ rfl rfl
theorem tail_other (gs : Fin 7 → GSem nD τ sig) (N : ℕ) (g : GSem nD τ sig) (h : ∀ s, g ≠ gs s) : tail gs N 0 g () = 0 := by
  rw [tail_apply, Finset.sum_eq_zero fun s _ => if_neg (h s)]

theorem owed_rs (c : Dev nD) (s : Fin 7) : ∑ d : Dev nD, O₀ d (ownC' c (exO 1 s)) () = N7 := by
  have h (d : Dev nD) : O₀ d (ownC' c (exO 1 s)) () = if c = fwd d s then N7 else 0 := by
    unfold O₀
    rw [Pi.add_apply, Pi.add_apply, Finsupp.add_apply, Finsupp.add_apply, tail_arrive,
      tail_other _ _ _ fun s' h => by have := (own_iff.mp h).2; simp at this,
      tail_other _ _ _ fun s' h => osem_ne_bar (exO 1 s) (congrArg Prod.snd h), zero_add, add_zero]
  simp only [h, sum_fwd]
theorem owed_ag (c : Dev nD) (s : Fin 7) : ∑ d : Dev nD, O₀ d (ownC' c (exO 3 s)) () = N7 := by
  have h (d : Dev nD) : O₀ d (ownC' c (exO 3 s)) () = if c = fwd d s then N7 else 0 := by
    unfold O₀
    rw [Pi.add_apply, Pi.add_apply, Finsupp.add_apply, Finsupp.add_apply, tail_arrive,
      tail_other _ _ _ fun s' h => by have := (own_iff.mp h).2; simp at this,
      tail_other _ _ _ fun s' h => osem_ne_bar (exO 3 s) (congrArg Prod.snd h), add_zero, add_zero]
  simp only [h, sum_fwd]

theorem launch_cred (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The cells a device waits at for others. -/
def waitEmb : Unit ⊕ (Fin 7 ⊕ Fin 7) ↪ SemLoc sig := ⟨Sum.elim (fun _ => .reg barSem) (Sum.elim (fun s => osem (exO 1 s)) (fun s => osem (exO 3 s))), by decide +kernel⟩

theorem creds_intro (c : Dev nD) : (Pipeline.launchCred O₀ c : sProp 𝕄) ⊢ creds (F := F) c := by
  unfold Pipeline.launchCred creds
  refine BIBase.Entails.trans (bigSep_subset (t := Finset.univ.map waitEmb) (Finset.subset_univ _)) (Entails.of_eq ?_)
  rw [bigSep_map, bigSep_univ_sum, bigSep_univ_sum, show (Finset.univ : Finset Unit) = {()} from rfl, bigSep_singleton]
  refine congrArg₂ _ (congrArg cred (launch_cred (barC c) 7 (owed_bar c))) (congrArg₂ _ ?_ ?_)
  · exact bigSep_congr fun s _ => congrArg cred (launch_cred (ownC' c (exO 1 s)) N7 (owed_rs c s))
  · exact bigSep_congr fun s _ => congrArg cred (launch_cred (ownC' c (exO 3 s)) N7 (owed_ag c s))

/-! ## Dealing and opening -/

/-- The protocol's state between the launch and the kernel: its own cells not yet opened. -/
def ghost (c : Dev nD) : sProp 𝕄 :=
  iprop((invs V K ∗ bars (F := F)) ∗ atPos ER (barC c) 0 (∅ : Finset (Fin 7)) 0 ∗ bigSep Finset.univ (fun o : Own => openTok ER (ownC' c o)) ∗ pay (F := F) c)

theorem deal :
    iprop(BI.own (ER (launchOf barCells ownCells talkToks)) ∗ bigSep Finset.univ (fun c : Dev nD => semVal (barC c) 0))
      ⊢ (|={Set.univ}=> bigSep Finset.univ (fun c : Dev nD => iprop(∃ K, ghost V K c)) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 (∅ : Finset (Fin 7)) 0 : sProp 𝕄))
      ⊢ bigSep Finset.univ (fun c : Dev nD => (atPos ER (barC c) 0 (∅ : Finset (Fin 7)) 0 : sProp 𝕄)) :=
    Entails.of_eq (bigSep_map (s := Finset.univ) barEmb (Φ := fun g : GSem nD τ sig => (atPos ER g 0 (∅ : Finset (Fin 7)) 0 : sProp 𝕄)))
  have hr : bigSep barCells (fun g => (reached ER g 0 : sProp 𝕄)) ⊢ bars (F := F) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ (fun o : Own => (openTok ER (ownC' c o) : sProp 𝕄))) :=
    Entails.of_eq (by rw [bigSep_map, bigSep_univ_prod]; rfl)
  have hinv (κ : GSem nD τ sig → ℕ) : bigSep (barCells ∪ ownCells) (fun g => (cellInv ER (swaRd V) (κ g) g : sProp 𝕄)) ⊢ invs V κ :=
    Entails.of_eq (by rw [bigSep_union disjoint_cells, bigSep_map, bigSep_map]; rfl)
  have hone (κ : GSem nD τ sig → ℕ) (c : Dev nD) :
      iprop((invs V κ ∗ bars (F := F)) ∗ (atPos ER (barC c) 0 (∅ : Finset (Fin 7)) 0 ∗ bigSep Finset.univ (fun o : Own => openTok ER (ownC' c o)) ∗ pay (F := F) c))
        ⊢ (iprop(∃ K, ghost V K c) : sProp 𝕄) := by
    unfold ghost; iintro H; iexists κ; iexact H
  iintro ⟨Hu, Hv⟩
  imod (Rounds.fund_launch ER (swaRd V) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := iprop(invs V κ ∗ bars (F := F))) fun c _ => hone κ c)
  isplitr
  · isplitr
    · iapply (hinv κ); iexact Hinv
    · iapply hr; iexact Hr
  iapply pair; isplitl [Hat]; · iapply hat $$ Hat
  iapply pair; isplitl [Hopen]; · iapply hopen $$ Hopen
  iapply (Entails.of_eq (toks_eq (F := F))) $$ Htok

/-- The kernel's own cells opened, from their counters at zero. -/
theorem open_own (c : Dev nD) :
    iprop(((∃ K, ghost V K c) ∗ creds (F := F) c) ∗ Pipeline.ownSems0 osem c ∗ levAts L lv)
      ⊢ (|={Set.univ}=> iprop(∃ K, Ctx V K c ∗ opened (F := F) c) : sProp 𝕄) := by
  have hi (K : GSem nD τ sig → ℕ) (o : Own) : invs V K ⊢ cellInv ER (swaRd V) (K (ownC' c o)) (ownC' c o) := sep_elim_right.trans
    (bigSep_elim (Φ := fun p : Dev nD × Own => cellInv ER (swaRd V) (K (ownC' p.1 p.2)) (ownC' p.1 p.2)) (Finset.mem_univ (c, o)))
  have hcell (K : GSem nD τ sig → ℕ) : iprop((invs V K) ∗ bigSep Finset.univ (fun o : Own => iprop(openTok ER (ownC' c o) ∗ semVal (ownC' c o) 0)))
      ⊢ (|={Set.univ}=> bigSep Finset.univ (fun o : Own => iprop(atPos ER (ownC' c o) 0 (∅ : Finset (Fin 7)) 0 ∗ reached ER (ownC' c o) 0)) : sProp 𝕄) :=
    (bigSep_with_persistent (Ψ := fun o : Own => iprop(|={Set.univ}=> (atPos ER (ownC' c o) 0 (∅ : Finset (Fin 7)) 0 ∗ reached ER (ownC' c o) 0))) fun o _ =>
      (sep_mono_l (hi K o)).trans
        (Rounds.cell_open ER (swaRd V) (g := ownC' c o) (Set.mem_univ (K (ownC' c o))))).trans (bigSep_fupd _ _)
  unfold ghost Pipeline.ownSems0
  iintro ⟨⟨⟨%K, ⟨#HI, #HB⟩, Hat, Hop, Hpay⟩, Hcr⟩, Hs, #HL⟩
  imod (hcell K) $$ [Hop Hs] with H
  · isplitr; · iexact HI
    iapply pair
    isplitl [Hop]; · iexact Hop
    iexact Hs
  ihave H := (Entails.of_eq (bigSep_sep' _ _ _)) $$ H
  icases H with ⟨Hpos, #Hre⟩
  imodintro
  iexists K
  isplitr
  · unfold Ctx
    isplitr; · iexact HI
    isplitr; · iexact HL
    isplitr; · iexact HB
    unfold reach; iexact Hre
  unfold opened
  isplitl [Hpay]; · iexact Hpay
  isplitl [Hcr]; · iexact Hcr
  isplitl [Hat]; · iexact Hat
  iexact Hpos

end Cert.KernelIdeal.Swa

end
-- ==== Proof.Swa.BodyEq.lean ====
/- The printed body is the program of repeated steps. -/
module

public import proofs.«01_k».proof.Proof.Swa.Body

@[expose] public section

set_option synthInstance.maxSize 4096

noncomputable section

namespace Cert.KernelIdeal.Swa

open Idealize.ShloMosaic Idealize.SL.Sem Cert.KernelIdeal.Gen

variable {F : FTy → Type} [FloatOps F] [Named F]

set_option maxRecDepth 65536 in
set_option maxHeartbeats 8000000 in
theorem body_eq :
    cc0_body (F := F) xH (Memref.isWhole_whole _) wqH (Memref.isWhole_whole _) kH (Memref.isWhole_whole _) vH (Memref.isWhole_whole _)
      woH (Memref.isWhole_whole _) outM (Memref.isWhole_whole _) xM (Memref.isWhole_whole _) wqM (Memref.isWhole_whole _)
      woM (Memref.isWhole_whole _) wqbM (Memref.isWhole_whole _) wobM (Memref.isWhole_whole _) kM (Memref.isWhole_whole _)
      vM (Memref.isWhole_whole _) ctxM (Memref.isWhole_whole _) sendM (Memref.isWhole_whole _) rsM (Memref.isWhole_whole _)
      redM (Memref.isWhole_whole _) agM (Memref.isWhole_whole _) accM (Memref.isWhole_whole _)
      cc0_scratch13 cc0_scratch14 cc0_scratch15 cc0_scratch16 cc0_scratch17 = body (F := F) := rfl

end Cert.KernelIdeal.Swa

end
-- ==== Proof.Swa.Data.lean ====
/- The proof data of the one region, and the obligation of its body: the device enters holding the kernel's HBM arguments, its
   scratch buffers and its part of the protocol, and leaves with the output block at `outC` and every counter back at zero. -/
module

public import proofs.«01_k».proof.Proof.Swa.Deal
public import proofs.«01_k».proof.Proof.Swa.BodyEq
public import proofs.«01_k».proof.Proof.Gen.KernelIdeal.Points
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (V : Dev nD → Valuation τ sig (Elt F))

open Pipeline (Dat BodyObligation)

/-- What a device brings to its body, beside the output block and the tallies. -/
def before (c : Dev nD) : sProp 𝕄 :=
  iprop((∃ K, Ctx V K c ∗ opened (F := F) c) ∗ hbm V c ∗ scratches (F := F) c ∗ ∃ r, prngReg c r)
/-- What it leaves with. -/
def behind (c : Dev nD) : sProp 𝕄 :=
  iprop((semVal (barC c) 0 ∗ bigSep Finset.univ (fun o : Own => semVal (ownC' c o) 0)) ∗ hbm V c ∗ scratches (F := F) c ∗ ∃ r, prngReg c r)

/-- The region's data: the output array as the region finds it, its one block at `outC` afterwards. -/
def dat (c : Dev nD) : Dat τ (Elt F) Unit ℕ UU ℕ cfg0 c where
  A w := V c (Proc.devRef .tc (Pipeline.arrRef spec0 w))
  after | 0 => fun _ => outC V c
        | ⟨_ + 1, h⟩ => absurd h (Nat.not_lt.2 (Nat.le_add_left _ _))
  Φ t := if t.val = 0 then before V c else behind V c
  q _ := fullShare
  owed t := if t.val = 0 then O₀ c else 0

theorem owed_first (c : Dev nD) : (dat V c).owed t0_0.castSucc = O₀ c := by
  show (if (t0_0.castSucc : Fin (cfg0.N + 1)).val = 0 then O₀ c else 0) = O₀ c; exact if_pos rfl
theorem owed_last (c : Dev nD) : (dat V c).owed (Fin.last _) = 0 := by
  show (if (Fin.last cfg0.N).val = 0 then O₀ c else 0) = 0
  rw [Fin.val_last, if_neg (by rw [show cfg0.N = 1 from N_0]; decide)]
theorem inv_first (c : Dev nD) : (dat V c).Φ t0_0.castSucc = before V c := by
  show (if (t0_0.castSucc : Fin (cfg0.N + 1)).val = 0 then before V c else behind V c) = before V c; exact if_pos rfl
theorem inv_last (c : Dev nD) : (dat V c).Φ (Fin.last _) = behind V c := by
  show (if (Fin.last cfg0.N).val = 0 then before V c else behind V c) = behind V c
  rw [Fin.val_last, if_neg (by rw [show cfg0.N = 1 from N_0]; decide)]

theorem owesAt_of (c : Dev nD) (t : Fin (cfg0.N + 1)) (O : CellTallies nD τ sig Unit) (h : (dat V c).owed t = O) :
    ow (F := F) c O ⊢ (dat V c).owesAt () t := by
  unfold ow Dat.owesAt Pipeline.owesWithin Dat.bound; rw [h]
  iintro ⟨%W, HO⟩; iexists W; isplitr; · ipureintro; exact fun _ _ => Or.inl trivial
  iexact HO
theorem owesAt_to (c : Dev nD) (t : Fin (cfg0.N + 1)) (O : CellTallies nD τ sig Unit) (h : (dat V c).owed t = O) :
    (dat V c).owesAt () t ⊢ ow (F := F) c O := by
  unfold ow Dat.owesAt Pipeline.owesWithin; rw [h]
  iintro ⟨%W, -, HO⟩; iexists W; iexact HO

/-- The staging block of the output is the buffer the body writes, whole. -/
theorem stage_in (c : Dev nD) (X : Vec F S1x2048x1024 .f32) :
    (owns (c : Thread nD τ) (Memref.whole cc0_stg0_0) fullShare X : sProp 𝕄) ⊢ iprop(∃ f, all c outM f) := by
  unfold owns
  rw [View.set_whole]
  iintro ⟨%f, -, H⟩
  iexists f; iexact H
theorem stage_out (c : Dev nD) (X : Vec F S1x2048x1024 .f32) :
    all c outM X ⊢ (owns (c : Thread nD τ) (Memref.whole cc0_stg0_0) fullShare X : sProp 𝕄) := by
  unfold owns
  rw [View.set_whole]
  iintro H
  iexists X; isplitr
  · ipureintro; rfl
  iexact H

theorem kernel_eq : defs₀ (F := F) .tc cfg0.body (cfg0.bodyArgs t0_0 (cfg0.slots t0_0)) = body (F := F) :=
  (show _ = _ from rfl).trans body_eq

set_option maxHeartbeats 1600000 in
theorem obligation (c : Dev nD) : BodyObligation (dat V c) defs₀ 𝒱₀ () Set.univ := fun t => by
  obtain rfl := fin_N0 t
  rw [bigSep_W0, bigSep_W0, kernel_eq]
  rw [inv_first, show (dat V c).Φ t0_0.succ = behind V c from inv_last V c]
  unfold before behind
  iintro ⟨⟨⟨%K, HK, Hop⟩, Hh, Hs, Hr⟩, HO, Hout⟩
  ihave HO := (owesAt_to V c _ (O₀ c) (owed_first V c)) $$ HO
  ihave Hout := (show iprop(∃ d, owns (c : Thread nD τ) (Memref.whole cc0_stg0_0) fullShare ((dat V c).before 0 t0_0 d)) ⊢ (iprop(∃ f, all c outM f) : sProp 𝕄) from by
    iintro ⟨%d, H⟩; iapply (stage_in c _) $$ H) $$ Hout
  iapply (body_wp V K c _)
  isplitl [HK]; · iexact HK
  isplitl [Hop Hh Hs HO Hout]
  · isplitl [Hop]; · iexact Hop
    isplitl [Hs]; · iexact Hs
    isplitl [Hh]; · iexact Hh
    isplitl [Hout]; · iexact Hout
    iexact HO
  iintro ⟨HO, Hz, Hs, Hh, Hout⟩
  isplitl [Hz Hh Hs Hr]
  · isplitl [Hz]; · iexact Hz
    isplitl [Hh]; · iexact Hh
    isplitl [Hs]; · iexact Hs
    iexact Hr
  isplitl [HO]; · iapply (owesAt_of V c t0_0.succ 0 (owed_last V c)); iexact HO
  iapply (stage_out c (outC V c)) $$ Hout

end Cert.KernelIdeal.Swa

end
-- ==== Proof.Swa.Launch.lean ====
/- The region as one segment of @main: the buffers it is entered with and left with, its own counters opened at entry, the
   output array at `outC` afterwards. -/
module

public import proofs.«01_k».proof.Proof.Swa.Data
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

open Pipeline (Dat BodyObligation)

/-! ## The buffers of @main -/

/-- Every buffer of @main. -/
def bufs : Finset (DevRef τ sig) := (StableHlo.tcRefs τ sig).filter fun b => ¬ b.isScoped
/-- Those the kernel addresses itself, -/
def kernelBufs : Finset (DevRef τ sig) :=
  {Proc.devRef .tc main_arg0, Proc.devRef .tc main_arg1, Proc.devRef .tc main_v2, Proc.devRef .tc main_v4, Proc.devRef .tc main_arg4}
/-- and all but its result. -/
def sideBufs : Finset (DevRef τ sig) := bufs.erase (Proc.devRef .tc main_v5)

theorem kernelBufs_sub : kernelBufs ⊆ sideBufs := by decide
theorem res_mem : Proc.devRef .tc main_v5 ∈ bufs := by decide

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arrRefs_eq : Pipeline.arrRefs (τ := τ) spec0 = {Proc.devRef .tc main_v5} := by decide

theorem held_split (c : Dev nD) (W : Valuation τ sig (Elt F)) :
    (StableHlo.held (c : Thread nD τ) bufs W : sProp 𝕄)
      = iprop(StableHlo.held (c.tc : Thread nD τ) (Pipeline.arrRefs (τ := τ) spec0) W ∗ StableHlo.held (c.tc : Thread nD τ) sideBufs W) := by
  rw [arrRefs_eq]
  unfold StableHlo.held sideBufs
  rw [bigSep_singleton]
  have h := bigSep_insert (Finset.notMem_erase (Proc.devRef .tc main_v5) bufs) (Φ := fun b : DevRef τ sig => (((c : Thread nD τ).1, b) ↦{fullShare} W b : sProp 𝕄))
  rw [Finset.insert_erase res_mem] at h
  exact h

/-- What @main's buffers hold at launch, -/
abbrev V₀ (c : Dev nD) : Valuation τ sig (Elt F) := fun b => m (c, b)
/-- when the kernel starts, -/
def V₁ (c : Dev nD) : Valuation τ sig (Elt F) := StableHlo.after hostOps0 (V₀ m c)
/-- and when it is done. -/
def V₂ (c : Dev nD) : Valuation τ sig (Elt F) := Function.update (V₁ m c) (Proc.devRef .tc main_v5) (outC (V₁ m) c)

theorem V₂_out (c : Dev nD) : V₂ m c (Proc.devRef .tc main_v5) = outC (V₁ m) c := by
  unfold V₂; exact Function.update_self ..
theorem V₂_of_ne (c : Dev nD) (b : DevRef τ sig) (h : b ≠ Proc.devRef .tc main_v5) : V₂ m c b = V₁ m c b := by
  unfold V₂; exact Function.update_of_ne h _ _

theorem held_kernel (c : Dev nD) (V : Dev nD → Valuation τ sig (Elt F)) :
    (StableHlo.held (c.tc : Thread nD τ) kernelBufs (V c) : sProp 𝕄) = hbm V c := by
  unfold StableHlo.held
  rw [bigSep_eq_bigSepL_of_eq [Proc.devRef .tc main_arg0, Proc.devRef .tc main_arg1, Proc.devRef .tc main_v2, Proc.devRef .tc main_v4,
    Proc.devRef .tc main_arg4] (by decide) (by decide)]
  rfl

theorem held_kernel' (c : Dev nD) : (StableHlo.held (c.tc : Thread nD τ) kernelBufs (V₂ m c) : sProp 𝕄) = hbm (V₁ m) c := by
  rw [← held_kernel]
  unfold StableHlo.held
  refine bigSep_congr fun b hb => ?_
  rw [V₂_of_ne m c b (fun h => by subst h; revert hb; decide)]

theorem scoped_eq (c : Dev nD) :
    (Pipeline.scopedRest (Ix := Unit) (Name := ℕ) (U := UU) (Lvl := ℕ) (Val := Elt F) spec0 c : sProp 𝕄) = scratches (F := F) c :=
  (scopedRest0_eq c).trans rfl

/-! ## The data, per pipeline -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat (V₁ m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## The result -/

theorem flushed_eq (V : Dev nD → Valuation τ sig (Elt F)) (c : Dev nD) (t : Fin cfg0.N) :
    (dat V c).flushed 0 t = (win0_0.blk t).view.read (Elt F) (outC V c) := by
  show (cfg0.win 0).cut (grid0.coords t) (outC V c) = _
  obtain rfl := fin_N0 t
  funext i
  refine congrArg (outC V c) (funext fun a => Fin.ext ?_)
  show (i a : Nat) = win0_0.index t0_0 a * win0_0.size a + 1 * (i a : Nat)
  have e : ∀ a, win0_0.index t0_0 a * win0_0.size a = 0 := by decide +kernel
  rw [e a]; omega

theorem cover (i : S1x2048x1024.Idx) : ∃ t : Fin cfg0.N, (cfg0.win 0).flush t = true ∧ i ∈ ((cfg0.win 0).blk t).view.set := by
  refine ⟨t0_0, flush0_0 _, ?_⟩
  show i ∈ ((View.whole main_v5).slice (win0_0.rect t0_0)).set
  rw [View.set_slice_whole, Rect.mem_set_unit]
  have e : ∀ a, win0_0.index t0_0 a * win0_0.size a = 0 ∧ win0_0.xsize (grid0.coords t0_0) a = S1x2048x1024.size a := by
    decide +kernel
  intro a
  show win0_0.index t0_0 a * win0_0.size a ≤ (i a : Nat) ∧ (i a : Nat) < win0_0.index t0_0 a * win0_0.size a + win0_0.xsize (grid0.coords t0_0) a
  rw [(e a).1, (e a).2, Nat.zero_add]
  exact ⟨Nat.zero_le _, (i a).isLt⟩

theorem final_out (V : Dev nD → Valuation τ sig (Elt F)) (c : Dev nD) : (dat V c).arrAt 0 cfg0.N = outC V c :=
  (dat V c).arrAt_eq_of_cover 0 (outC V c) (fun t _ => flushed_eq V c t) cover

/-! ## The region -/

/-- What a device keeps of the protocol from the launch, -/
def kept (c : Dev nD) : sProp 𝕄 := iprop((∃ K, ghost (V₁ m) K c) ∗ creds (F := F) c)
/-- and with its own counters opened. -/
def ready (c : Dev nD) : sProp 𝕄 := iprop(∃ K, Ctx (V₁ m) K c ∗ opened (F := F) c)
/-- Its barrier counter, back at zero. -/
def done (c : Dev nD) : sProp 𝕄 := semVal (barC c) 0

theorem hopen (c : Dev nD) : iprop(kept m c ∗ Pipeline.ownSems0 osem c ∗ levAts L lv) ⊢ (|={Set.univ}=> ready m c : sProp 𝕄) :=
  open_own (V₁ m) c

theorem hin (c : Dev nD) : iprop(Pipeline.scopedRest (Pipeline.pin (pcfgs (F := F)) adm 0).spec c ∗ (∃ r, prngReg c r)
    ∗ StableHlo.held (c.tc : Thread nD τ) kernelBufs (V₁ m c) ∗ ready m c) ⊢ (pdats m 0 c).Φ 0 := by
  rw [show (pdats m 0 c).Φ 0 = before (V₁ m) c from inv_first (V₁ m) c,
    show Pipeline.scopedRest (Pipeline.pin (pcfgs (F := F)) adm 0).spec c = (scratches (F := F) c : sProp 𝕄) from scoped_eq c, held_kernel c (V₁ m)]
  unfold before ready
  iintro ⟨Hs, Hp, Hh, HK⟩
  isplitl [HK]; · iexact HK
  isplitl [Hh]; · iexact Hh
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) kernelBufs (V₂ m c) ∗ Pipeline.ownSems0 osem c ∗ done (F := F) c) := by
  rw [show (pdats m 0 c).Φ (Fin.last _) = behind (V₁ m) c from inv_last (V₁ m) c,
    show Pipeline.scopedRest (Pipeline.pin (pcfgs (F := F)) adm 0).spec c = (scratches (F := F) c : sProp 𝕄) from scoped_eq c, held_kernel' m c]
  unfold behind done Pipeline.ownSems0
  iintro ⟨⟨Hb, Ho⟩, Hh, Hs, Hp⟩
  isplitl [Hs]; · iexact Hs
  isplitl [Hp]; · iexact Hp
  isplitl [Hh]; · iexact Hh
  isplitl [Ho] <;> iassumption

theorem owed_cut (c : Dev nD) : Above 0 (O₀ c) := by
  unfold O₀
  exact (((above_ag c 0).mono (Nat.zero_le _)).add ((above_rs c 0).mono (Nat.zero_le _))).add (above_bar c 0)

/-- The staging cell is none of the protocol's. -/
theorem lv_stage (c : Dev nD) : ∀ (w : Fin 1) (s : Fin (spec0 w).nbuf), lv ((c : Thread nD τ), .dma ((spec0 w).sem s)) () = 0 := by
  have h1 : ∀ (w : Fin 1) (s : Fin (spec0 w).nbuf), ¬ ∃ o, osem o = SemLoc.dma ((spec0 w).sem s) := by decide +kernel
  intro w s
  have h : decode (SemLoc.dma ((spec0 w).sem s)) = none := by
    unfold decode
    rw [dif_neg (h1 w s), if_neg (by intro h; cases h)]
  dsimp only [lv]; rw [h]

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact owed_cut c g i h
  · exact absurd h (Nat.lt_irrefl 0)

theorem ownSemFacts : Pipeline.OwnSemFacts spec0 osem := by decide +kernel

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    kernelBufs sideBufs kernelBufs_sub kitP rfl (fun c => (obligation (V₁ m) c).loose)
    (fun _ => 0) O₀ (fun c => (owed_first (V₁ m) c).trans (zero_add _).symm) (fun c => owed_last (V₁ m) c) (fun _ => rfl)
    (fun _ w => by obtain rfl : w = 0 := Subsingleton.elim _ _; rfl)
    (V₁ m) (V₂ m) (fun c b hb => V₂_of_ne m c b fun h => by subst h; revert hb; decide)
    (kept m) (done (F := F)) (ready m) (done (F := F)) (hopen m) (hin m) (hout m)
    (fun c => by iintro H; imodintro; iexact H)
    (fun _ => 0)
    ⟨fun c w s => by rw [show L _ = _ from L_tc c _]; exact Finset.mem_singleton_self _, fun c w s => (lv_stage c w s).le, fun c t g i h => cut m c t g i h⟩
    (fun _ => iprop(emp))
    (fun c w => by obtain rfl : w = 0 := Subsingleton.elim _ _; rfl)
    (fun c w => by obtain rfl : w = 0 := Subsingleton.elim _ _; exact (final_out (V₁ m) c).trans (V₂_out m c).symm)

end Cert.KernelIdeal.Swa

end
-- ==== Proof.Swa.Main.lean ====
/- The run of @main: from any memory, every execution on the eight devices ends with each device's result holding `outC`, its
   arguments as they were, and every semaphore at zero. -/
module

public import proofs.«01_k».proof.Proof.Swa.Launch
public import proofs.«01_k».proof.Proof.Gen.KernelIdeal.Frame
public import proofs.«01_k».proof.Proof.Gen.KernelIdeal.Launch
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Swa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

open Pipeline (Dat BodyObligation)

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barSem} from by decide +kernel, BI.bigSep_singleton]
theorem unscoped_eq : ∀ sm : SemLoc sig, sm.isScoped .tc = false → sm = .reg barSem := by decide +kernel

theorem hostOps0_bufs : ∀ op ∈ (hostOps0 : List (HloOp τ sig (Elt F))), op.bufs ⊆ bufs := fun op h => by
  simp only [List.mem_cons, List.mem_nil_iff, or_false] at h
  rcases h with rfl | rfl | rfl | rfl
  · show ({Proc.devRef .tc main_arg2, Proc.devRef .tc main_v1} : Finset (DevRef τ sig)) ⊆ bufs; decide
  · show ({Proc.devRef .tc main_v1, Proc.devRef .tc main_v2} : Finset (DevRef τ sig)) ⊆ bufs; decide
  · show ({Proc.devRef .tc main_arg3, Proc.devRef .tc main_v3} : Finset (DevRef τ sig)) ⊆ bufs; decide
  · show ({Proc.devRef .tc main_v3, Proc.devRef .tc main_v4} : Finset (DevRef τ sig)) ⊆ bufs; decide
theorem hostOps0_quiet : ∀ op ∈ (hostOps0 : List (HloOp τ sig (Elt F))), op.fresh = ∅ :=
  List.forall_iff_forall_mem.mp (hostOps0_fresh (F := F))

/-- What rides beside the buffers through the host operations. -/
def rides (c : Dev nD) : sProp 𝕄 := iprop(kept m c ∗ (∃ r, prngReg c r) ∗ ow (F := F) c (O₀ c))

/-- The host operations before the region. -/
def prelude : Pipeline.HostSeg (Name := ℕ) (U := UU) (pcfgs (F := F)) defs₀ 𝒱₀ L lv :=
  Pipeline.HostSeg.ofOps _ _ _ _ _ bufs hostOps0 hostOps0_bufs hostOps0_quiet (V₀ m) (rides m)

def segs : List (Pipeline.Seg (pcfgs (F := F)) adm (pdats m) () defs₀ 𝒱₀ L lv) := [.host (prelude m), .region (region m)]

theorem main_eq (c : Dev nD) : main (F := F) c = Pipeline.Seg.run (segs m) := main_segs adm (pdats m) () 𝒱₀ L lv (prelude m) (region m) rfl c

theorem region_pre (c : Dev nD) : iprop(StableHlo.held (c : Thread nD τ) bufs (V₁ m c) ∗ rides m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) sideBufs (V₁ m c) ∗ emp) ∗ kept m c ∗ ∃ Wd, owes (c : Thread nD τ) (0 + O₀ c) Wd)
  rw [held_split, zero_add]
  unfold rides ow
  iintro ⟨⟨Ha, Hb⟩, HK, Hp, HO⟩
  isplitl [Ha]; · iexact Ha
  isplitl [Hp]; · iexact Hp
  isplitl [Hb]
  · isplitl [Hb]; · iexact Hb
    iempintro
  isplitl [HK] <;> iassumption

theorem region_post (c : Dev nD) : (region m).post c
    ⊢ iprop((StableHlo.held (c : Thread nD τ) bufs (V₂ m c) ∗ semVal (barC c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) sideBufs (V₂ m c) ∗ emp) ∗ done (F := F) c ∗ ∃ Wd, owes (c : Thread nD τ) (0 : CellTallies nD τ sig Unit) Wd) ⊢ _
  rw [held_split]
  unfold done
  iintro ⟨Ha, -, ⟨Hb, -⟩, Hz, HO⟩
  isplitr [HO]
  · isplitl [Ha Hb]
    · isplitl [Ha] <;> iassumption
    iexact Hz
  iexact HO

/-! ## The launch -/

/-- A resource as a per-device one: all of it on device 0. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase 0) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The launch element: the pipeline's at the staging cells, the protocol's at its cells. -/
def u₀ : UU :=
  (initOf (Pipeline.cells (Pipeline.pin (pcfgs (F := F)) adm) cellOf_inj) (Pipeline.launchToks (Pipeline.pin (pcfgs (F := F)) adm) cellOf_inj),
    launchOf barCells ownCells talkToks)

def G : Dev nD → sProp 𝕄 := onDev (BI.own (ER (launchOf barCells ownCells talkToks)))

/-- What a device brings that is not the protocol's. -/
def bundle (c : Dev nD) : sProp 𝕄 :=
  iprop(StableHlo.held (c : Thread nD τ) bufs (V₀ m c) ∗ creds (F := F) c ∗ (∃ r, prngReg c r) ∗ ow (F := F) c (O₀ c))

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barC c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle ow
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [Hp]; · iexists (ρ c); iexact Hp
    iexists ∅; iexact HO
  isplitl [Hus] <;> iassumption

abbrev T₀ (c : Dev nD) : sProp 𝕄 := iprop(StableHlo.held (c : Thread nD τ) bufs (V₀ m c) ∗ rides m c)
abbrev Tₙ (c : Dev nD) : sProp 𝕄 := iprop(StableHlo.held (c : Thread nD τ) bufs (V₂ m c) ∗ semVal (barC c) 0)

theorem start (c : Dev nD) : iprop(bundle m c ∗ ∃ K, ghost (V₁ m) K c) ⊢ T₀ m c := by
  unfold bundle T₀ rides kept
  iintro ⟨⟨Hh, Hc, Hp, HO⟩, HK⟩
  isplitl [Hh]; · iexact Hh
  isplitl [HK Hc]
  · isplitl [HK] <;> iassumption
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop(bigSep Finset.univ (bundle m) ∗ (bigSep Finset.univ (fun c : Dev nD => semVal (barC c) 0) ∗ BI.own (ER (launchOf barCells ownCells talkToks)))) : sProp 𝕄) := by
    refine (show _ ⊢ (bigSep Finset.univ fun c : Dev nD => (iprop(bundle m c ∗ (semVal (barC c) 0 ∗ G c)) : sProp 𝕄)) from bigSep_mono fun c _ => core m ρ c).trans
      (Entails.of_eq ?_)
    rw [bigSep_sep', bigSep_sep']
    unfold G
    rw [bigSep_onDev]
  iintro ⟨H, -⟩
  ihave H := h1 $$ H
  icases H with ⟨HB, Hv, HG⟩
  imod (deal (V₁ m)) $$ [Hv HG] with HK
  · isplitl [HG] <;> iassumption
  imodintro
  iapply (show iprop(bigSep Finset.univ (bundle m) ∗ bigSep Finset.univ (fun c => iprop(∃ K, ghost (V₁ m) K c))) ⊢ bigSep Finset.univ (T₀ m) from
    (Entails.of_eq (bigSep_sep' Finset.univ (bundle m) (fun c => (iprop(∃ K, ghost (V₁ m) K c) : sProp 𝕄))).symm).trans (bigSep_mono fun c _ => start m c))
  isplitl [HB] <;> iassumption

/-! ## The run -/

/-- What the run leaves at device `c`: the result, the arguments. -/
def Left (c : Dev nD) (s : (ℓ : Loc nD τ sig) → Buf (Elt F) ℓ) : Prop :=
  s ((c.tc : Thread nD τ).loc main_v5) = outC (V₁ m) c
    ∧ s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)

theorem held_bufs (c : Dev nD) (W : Valuation τ sig (Elt F)) :
    (StableHlo.held (c : Thread nD τ) bufs W : sProp 𝕄)
      = iprop(((c : Thread nD τ).loc main_v5 ↦{fullShare} W main_v5) ∗ ((c : Thread nD τ).loc main_arg0 ↦{fullShare} W main_arg0)
        ∗ ((c : Thread nD τ).loc main_arg1 ↦{fullShare} W main_arg1) ∗ ((c : Thread nD τ).loc main_arg2 ↦{fullShare} W main_arg2)
        ∗ ((c : Thread nD τ).loc main_arg3 ↦{fullShare} W main_arg3) ∗ ((c : Thread nD τ).loc main_arg4 ↦{fullShare} W main_arg4)
        ∗ ((c : Thread nD τ).loc main_v1 ↦{fullShare} W main_v1) ∗ ((c : Thread nD τ).loc main_v2 ↦{fullShare} W main_v2)
        ∗ ((c : Thread nD τ).loc main_v3 ↦{fullShare} W main_v3) ∗ ((c : Thread nD τ).loc main_v4 ↦{fullShare} W main_v4)) := by
  unfold StableHlo.held
  rw [bigSep_eq_bigSepL_of_eq [Proc.devRef .tc main_v5, Proc.devRef .tc main_arg0, Proc.devRef .tc main_arg1, Proc.devRef .tc main_arg2,
    Proc.devRef .tc main_arg3, Proc.devRef .tc main_arg4, Proc.devRef .tc main_v1, Proc.devRef .tc main_v2, Proc.devRef .tc main_v3,
    Proc.devRef .tc main_v4] (by decide) (by decide)]
  rfl

theorem V₂_arg0 (c : Dev nD) : V₂ m c main_arg0 = m ((c.tc : Thread nD τ).loc main_arg0) :=
  (V₂_of_ne m c _ (by decide)).trans (V_main_arg0 m c)
theorem V₂_arg1 (c : Dev nD) : V₂ m c main_arg1 = m ((c.tc : Thread nD τ).loc main_arg1) :=
  (V₂_of_ne m c _ (by decide)).trans (V_main_arg1 m c)
theorem V₂_arg2 (c : Dev nD) : V₂ m c main_arg2 = m ((c.tc : Thread nD τ).loc main_arg2) :=
  (V₂_of_ne m c _ (by decide)).trans (V_main_arg2 m c)
theorem V₂_arg3 (c : Dev nD) : V₂ m c main_arg3 = m ((c.tc : Thread nD τ).loc main_arg3) :=
  (V₂_of_ne m c _ (by decide)).trans (V_main_arg3 m c)
theorem V₂_arg4 (c : Dev nD) : V₂ m c main_arg4 = m ((c.tc : Thread nD τ).loc main_arg4) :=
  (V₂_of_ne m c _ (by decide)).trans (V_main_arg4 m c)

set_option backward.isDefEq.respectTransparency.types false in
/-- Every execution ends, each device's result at `outC`, its arguments as they were, every semaphore at zero. -/
theorem run_main : θ_run defs (onTc (τ := τ) (main (F := F))) ⟨m, fun _ => 0, ρ⟩
    (fun r => (∀ c : Dev nD, Left m c r.2.mem) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => region_pre m c, fun c => region_post m c⟩)
    (hinit := init m ρ)
    (QY := fun c s => Left m c s.mem ∧ s.sem (barC c) = 0)
    (hfin := fun c s' => by
      dsimp only [Tₙ]; rw [held_bufs]
      iintro ⟨⟨⟨H5, H0, H1, H2, H3, H4, -, -, -, -⟩, Hb⟩, HSI⟩
      icombine HSI H5 gives %h5
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨(Buf.eq_of_forall_mem_univ h5).trans (V₂_out m c), (Buf.eq_of_forall_mem_univ h0).trans (V₂_arg0 m c),
          (Buf.eq_of_forall_mem_univ h1).trans (V₂_arg1 m c), (Buf.eq_of_forall_mem_univ h2).trans (V₂_arg2 m c),
          (Buf.eq_of_forall_mem_univ h3).trans (V₂_arg3 m c), (Buf.eq_of_forall_mem_univ h4).trans (V₂_arg4 m c)⟩, by simpa using hb⟩
      iexact HSI)
    (hQ := fun s h hs => ⟨fun c => (h c).1,
      sem_eq_zero hs fun c sm hsm => by
        obtain rfl := unscoped_eq sm hsm
        exact (h c).2⟩)

end Cert.KernelIdeal.Swa

end
-- ==== Proof.Swa.Frames.lean ====
/- The three programs run, leave their arguments as they were and every semaphore at zero.

   The kernel and its idealization are one text but for the mask constant, which the kernel writes as a literal and the
   idealization by name. `run_main` is proved over any float values and any reading of the names, so reading the mask's name as
   the kernel's literal makes it a run of the kernel. -/
module

public import proofs.«01_k».proof.Defs
public import proofs.«01_k».proof.Proof.Swa.Main
public import proofs.«01_k».proof.Proof.Gen.Kernel
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Lib.Quiescent

@[expose] public section

noncomputable section

namespace Cert.Proof

open Idealize.ShloMosaic Idealize.ShloMosaic.TcCoe Idealize.SL.Sem

/-- A name read as the literal it was printed beside. -/
@[reducible] def literal : Named Bits := ⟨fun _ _ _ bits => FloatOps.ofBits (F := Bits) _ bits⟩

section Text

attribute [local instance] literal

set_option maxRecDepth 20000 in
theorem body_text : (Cert.Kernel.cc0_body (F := Bits)) = Cert.KernelIdeal.cc0_body (F := Bits) := rfl

set_option maxRecDepth 20000 in
theorem defs₀_text : (Cert.Kernel.defs₀ (F := Bits)) = Cert.KernelIdeal.defs₀ (F := Bits) := by
  refine congrArg Defs.onTc (funext fun ℓ => funext fun x => ?_)
  match ℓ, x with
  | 0, (t, s) => rfl
  | ⟨_ + 1, h⟩, _ => exact absurd h (Nat.not_lt.2 (Nat.le_add_left _ _))

theorem defs_text : (Cert.Kernel.defs (F := Bits)) = Cert.KernelIdeal.defs (F := Bits) :=
  congrArg (Pipeline.defs (Cert.KernelIdeal.pcfgs (F := Bits))) defs₀_text

theorem main_text : (Cert.Kernel.main (F := Bits)) = Cert.KernelIdeal.main (F := Bits) := rfl

/-- The kernel's run. -/
theorem frame_kernel : Cert.quiescent_Kernel := fun m ρ _ => by
  rw [defs_text, main_text]
  exact (θ_run Cert.KernelIdeal.defs _ _).mono (fun _ h => ⟨fun c => (h.1 c).2, h.2⟩) (Cert.KernelIdeal.Swa.run_main (F := Bits) m ρ)

end Text

theorem frame_ideal : Cert.quiescent_KernelIdeal := fun m ρ _ =>
  (θ_run Cert.KernelIdeal.defs _ _).mono (fun _ h => ⟨fun c => (h.1 c).2, h.2⟩) (Cert.KernelIdeal.Swa.run_main (F := Ideal) m ρ)

theorem frame_ideal_pre : Cert.quiescent_KernelIdeal_pre_finite_scores_KernelIdeal := fun m ρ _ => frame_ideal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_scores_ReferenceIdeal := fun m ρ _ => frame_reference m ρ trivial

/-- The mask's name means −∞. -/
theorem mask_named : Cert.preserves_Kernel_KernelIdeal := IdealRules.named_const.statement Cert.KernelIdeal.κ "mask" .f32 0xCE6E6B28#32 ⊥ rfl

end Cert.Proof

end
-- ==== Proof.Value.Row.lean ====
/- One row of masked attention over the extended reals.

   `near c` says which of the 2048 columns a row attends to, `t c` is its finite score there. The weight of column `c` is
   `e^(t c)` over the sum of the `e^(t c')` attended to, and zero elsewhere (`share`). A softmax that subtracts the row's maximum
   gives these weights (`softmax_share`); so does summing unshifted exponentials over any window that holds every column
   attended to, and multiplying the weighted values by the reciprocal of the sum (`window_row`). The values may be infinite. -/
module

public import Idealize.ShloMosaic.PureOps.Ideal
public import Idealize.ShloMosaic.PureOps.Ideal.Laws

@[expose] public section

noncomputable section

namespace Cert.Attn

open Idealize.ShloMosaic

/-! ## Sums of extended reals -/

theorem sum_mul_coe {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- A sum of products of finite extended reals is the sum of the products of their reals. -/
theorem sum_mul_real {ι : Type*} [Fintype ι] {f g : ι → EReal} (hf : ∀ i, (((f i).toReal : ℝ) : EReal) = f i) (hg : ∀ i, (((g i).toReal : ℝ) : EReal) = g i) :
    ∑ i, f i * g i = ((∑ i, (f i).toReal * (g i).toReal : ℝ) : EReal) := by
  rw [coe_sum]
  exact Finset.sum_congr rfl fun i _ => by rw [EReal.coe_mul, hf, hg]

/-! ## The row -/

variable (near : Fin 2048 → Prop) [DecidablePred near] (t : Fin 2048 → ℝ)

/-- The score where the row attends, −∞ elsewhere. -/
def masked (c : Fin 2048) : EReal := if near c then (t c : EReal) else ⊥
/-- The exponential where the row attends, zero elsewhere. -/
def part (c : Fin 2048) : ℝ := if near c then Real.exp (t c) else 0
/-- The sum of the exponentials. -/
def mass : ℝ := ∑ c, part near t c
/-- The weight of a column. -/
def share (c : Fin 2048) : ℝ := part near t c / mass near t

theorem part_nonneg (c : Fin 2048) : 0 ≤ part near t c := by
  unfold part; split
  · exact (Real.exp_pos _).le
  · exact le_rfl

theorem mass_pos (h : ∃ c, near c) : 0 < mass near t := by
  obtain ⟨c, hc⟩ := h
  refine Finset.sum_pos' (fun c _ => part_nonneg near t c) ⟨c, Finset.mem_univ _, ?_⟩
  unfold part; rw [if_pos hc]; exact Real.exp_pos _

theorem exp_masked (c : Fin 2048) : Ideal.exp (masked near t c) = (part near t c : EReal) := by
  unfold masked part; split
  · rfl
  · rfl

theorem exp_masked_sub (μ : ℝ) (c : Fin 2048) : Ideal.exp (masked near t c - (μ : EReal)) = ((part near t c * Real.exp (-μ) : ℝ) : EReal) := by
  unfold masked part; split
  · rw [← EReal.coe_sub, ← Real.exp_add, ← sub_eq_add_neg]; rfl
  · rw [EReal.bot_sub, zero_mul]; rfl

/-- The row's maximum is a real. -/
theorem max_real (h : ∃ c, near c) : ∃ μ : ℝ, Finset.univ.fold max ⊥ (masked near t) = (μ : EReal) := by
  obtain ⟨c, hc⟩ := h
  have h1 : Finset.univ.fold max ⊥ (masked near t) ≠ ⊤ := by
    refine ne_of_lt ((Finset.fold_max_lt _).mpr ⟨bot_lt_top, fun x _ => ?_⟩)
    unfold masked; split
    · exact EReal.coe_lt_top _
    · exact bot_lt_top
  have h2 : Finset.univ.fold max ⊥ (masked near t) ≠ ⊥ := by
    refine ne_of_gt (lt_of_lt_of_le (EReal.bot_lt_coe (t c)) ((Finset.le_fold_max _).mpr (.inr ⟨c, Finset.mem_univ _, ?_⟩)))
    unfold masked; rw [if_pos hc]
  exact ⟨_, (EReal.coe_toReal h1 h2).symm⟩

/-- A softmax that subtracts the maximum. -/
theorem softmax_share (h : ∃ c, near c) (M : EReal) (hM : M = Finset.univ.fold max ⊥ (masked near t)) (c : Fin 2048) :
    Ideal.div (Ideal.exp (masked near t c - M)) (∑ c', Ideal.exp (masked near t c' - M)) = (share near t c : EReal) := by
  obtain ⟨μ, hμ⟩ := max_real near t h
  rw [hM, hμ]
  simp only [exp_masked_sub]
  rw [← coe_sum, ← Finset.sum_mul]
  have hm : mass near t ≠ 0 := (mass_pos near t h).ne'
  have he : Real.exp (-μ) ≠ 0 := (Real.exp_pos _).ne'
  rw [show (∑ i, part near t i) = mass near t from rfl, Ideal.div_coe (mul_ne_zero hm he), ← EReal.coe_mul]
  unfold share
  congr 1
  field_simp

/-- Unshifted exponentials over a window that holds every column attended to. -/
theorem window_row (h : ∃ c, near c) (v : Fin 2048 → EReal) (e : Fin 512 → Fin 2048) (he : Function.Injective e) (hc : ∀ c, near c → c ∈ Set.range e) :
    (∑ w, Ideal.exp (masked near t (e w)) * v (e w)) * Ideal.div 1 (∑ w, Ideal.exp (masked near t (e w))) = ∑ c, v c * (share near t c : EReal) := by
  have h0 : ∀ c, c ∉ Set.range e → part near t c = 0 := fun c h' => if_neg fun hn => h' (hc c hn)
  simp only [exp_masked]
  have hm : ∑ w, (part near t (e w) : EReal) = (mass near t : EReal) := by
    rw [← coe_sum]
    exact congrArg _ (Fintype.sum_of_injective e he _ _ h0 fun _ => rfl)
  have hp := mass_pos near t h
  rw [hm, ← EReal.coe_one, Ideal.div_coe hp.ne', ← EReal.coe_mul, sum_mul_coe _ _ (by positivity)]
  refine Fintype.sum_of_injective e he _ _ (fun c h' => ?_) fun w => ?_
  · unfold share; rw [h0 c h', zero_div, EReal.coe_zero, mul_zero]
  · rw [mul_comm ((part near t (e w) : ℝ) : EReal), mul_assoc, ← EReal.coe_mul]
    exact congrArg (fun r : ℝ => v (e w) * (r : EReal)) (by rw [one_mul, mul_one_div]; rfl)

end Cert.Attn

end
-- ==== Proof.Value.Whole.lean ====
/- The problem's own mathematics, over its whole arrays.

   `X` is the 2048 × 1024 input, `WQ` the 1024 × 8192 query projection, `K` and `V` the keys and values as 2048 × 64 × 128
   (position, head, lane), `WO` the 8192 × 1024 output projection. Head `h` has lanes `128h …` of the query projection. A
   position attends to the positions at most 128 away. Every entry of `X`, `WQ` and `K` is a real (`Real3`): so is then
   every score; the values and the output projection may hold infinities. -/
module

public import proofs.«01_k».proof.Proof.Value.Row

@[expose] public section

noncomputable section

namespace Cert.Attn

open Idealize.ShloMosaic

/-- The factor on the scores, as the real its float word stands for. -/
def factor : ℝ := (Ideal.ofBits .f32 0x3DB504F3#32).toReal

theorem factor_coe : ((factor : ℝ) : EReal) = Ideal.ofBits .f32 0x3DB504F3#32 := by
  refine EReal.coe_toReal ?_ ?_ <;> simp [Ideal.ofBits, Ideal.ieee, -EReal.coe_mul]

/-- Positions at most 128 apart. -/
def Near (r c : Fin 2048) : Prop := r.val ≤ c.val + 128 ∧ c.val ≤ r.val + 128

instance (r : Fin 2048) : DecidablePred (Near r) := fun _ => inferInstanceAs (Decidable (_ ∧ _))

theorem near_self (r : Fin 2048) : ∃ c, Near r c := ⟨r, by unfold Near; omega⟩

/-- Lane `d` of head `h` among the 8192 columns. -/
def col (h : Fin 64) (d : Fin 128) : Fin 8192 := ⟨h.val * 128 + d.val, by omega⟩

/-- A sum over the columns is a sum over the heads and their lanes. -/
theorem sum_col (f : Fin 8192 → EReal) : ∑ n, f n = ∑ h : Fin 64, ∑ d : Fin 128, f (col h d) := by
  rw [← Fintype.sum_prod_type']
  exact (Fintype.sum_equiv (finProdFinEquiv (m := 64) (n := 128)) _ _ fun p => congrArg f (Fin.ext (by
    show p.1.val * 128 + p.2.val = p.2.val + 128 * p.1.val
    omega))).symm

theorem ofBits_bot : Ideal.ofBits .f32 0xFF800000#32 = ⊥ := by simp [Ideal.ofBits, Ideal.ieee]

variable (X : Fin 2048 → Fin 1024 → EReal) (WQ : Fin 1024 → Fin 8192 → EReal) (K V : Fin 2048 → Fin 64 → Fin 128 → EReal) (WO : Fin 8192 → Fin 1024 → EReal)

/-- Every entry the scores are made of is a real. -/
structure Real3 : Prop where
  x : ∀ r k, (((X r k).toReal : ℝ) : EReal) = X r k
  wq : ∀ k n, (((WQ k n).toReal : ℝ) : EReal) = WQ k n
  k : ∀ c h d, (((K c h d).toReal : ℝ) : EReal) = K c h d

/-- The score of positions `r` and `c` in head `h`. -/
def score (h : Fin 64) (r c : Fin 2048) : ℝ :=
  (∑ d : Fin 128, (∑ k : Fin 1024, (X r k).toReal * (WQ k (col h d)).toReal) * (K c h d).toReal) * factor

/-- The attention weights. -/
def weight (h : Fin 64) (r c : Fin 2048) : ℝ := share (Near r) (score X WQ K h r) c

/-- The context: the weighted sum of the values. -/
def context (h : Fin 64) (r : Fin 2048) (d : Fin 128) : EReal := ∑ c, V c h d * (weight X WQ K h r c : EReal)

/-- The result: the contexts, side by side, through the output projection. -/
def result (r : Fin 2048) (o : Fin 1024) : EReal := ∑ h : Fin 64, ∑ d : Fin 128, context X WQ K V h r d * WO (col h d) o

variable {X WQ K}

/-- The scores as the reference makes them: scaled after the products. -/
theorem score_late (hr : Real3 X WQ K) (h : Fin 64) (r c : Fin 2048) :
    (∑ d : Fin 128, (∑ k : Fin 1024, X r k * WQ k (col h d)) * K c h d) * (factor : EReal) = (score X WQ K h r c : EReal) := by
  have e : ∀ d, ∑ k : Fin 1024, X r k * WQ k (col h d) = ((∑ k : Fin 1024, (X r k).toReal * (WQ k (col h d)).toReal : ℝ) : EReal) :=
    fun d => sum_mul_real (fun k => hr.x r k) (fun k => hr.wq k _)
  simp only [e]
  rw [sum_mul_real (fun d => by rw [EReal.toReal_coe]) (fun d => hr.k c h d), ← EReal.coe_mul]
  simp only [EReal.toReal_coe]
  rfl

/-- The scores as the kernel makes them: the query projection scaled first. -/
theorem score_early (hr : Real3 X WQ K) (h : Fin 64) (r c : Fin 2048) :
    ∑ d : Fin 128, (∑ k : Fin 1024, X r k * (WQ k (col h d) * (factor : EReal))) * K c h d = (score X WQ K h r c : EReal) := by
  have e0 : ∀ k d, WQ k (col h d) * (factor : EReal) = (((WQ k (col h d)).toReal * factor : ℝ) : EReal) :=
    fun k d => by rw [EReal.coe_mul, hr.wq]
  have e : ∀ d, ∑ k : Fin 1024, X r k * (WQ k (col h d) * (factor : EReal))
      = (((∑ k : Fin 1024, (X r k).toReal * (WQ k (col h d)).toReal) * factor : ℝ) : EReal) := fun d => by
    simp only [e0]
    rw [sum_mul_real (fun k => hr.x r k) (fun k => by rw [EReal.toReal_coe])]
    simp only [EReal.toReal_coe]
    rw [Finset.sum_mul]
    exact congrArg _ (Finset.sum_congr rfl fun k _ => by ring)
  simp only [e]
  rw [sum_mul_real (fun d => by rw [EReal.toReal_coe]) (fun d => hr.k c h d)]
  simp only [EReal.toReal_coe]
  unfold score
  rw [Finset.sum_mul]
  exact congrArg _ (Finset.sum_congr rfl fun k _ => by ring)

end Cert.Attn

end
-- ==== Proof.Value.Words.lean ====
/- Positions as 32-bit words: the mask's comparison of two of them. -/
module

public import Idealize.ShloMosaic.PureOps.Float

@[expose] public section

namespace Cert.Attn

open Idealize.ShloMosaic

/-- Small words: `|x − y| ≤ 128` is the comparison of the numbers they stand for. -/
theorem near_word (x y : BitVec 32) (a b : Nat) (hx : x.toNat = a) (hy : y.toNat = b) (ha : a < 4096) (hb : b < 4096) :
    IntOp.cmpi .sle (IntOp.absi (IntOp.subi x y)) 128#32 = if a ≤ b + 128 ∧ b ≤ a + 128 then 1#1 else 0#1 := by
  have key : (IntOp.absi (IntOp.subi x y)).toNat = if b ≤ a then a - b else b - a := by
    unfold IntOp.absi IntOp.subi
    rw [BitVec.msb_eq_decide]
    have hs : (x - y).toNat = if b ≤ a then a - b else 2 ^ 32 - (b - a) := by
      rw [BitVec.toNat_sub, hx, hy]; split <;> omega
    rw [hs]
    by_cases h : b ≤ a
    · rw [if_pos h, if_neg (by simp; omega), hs, if_pos h, if_pos h]
    · rw [if_neg h, if_pos (by simp; omega), BitVec.toNat_neg, hs, if_neg h, if_neg h]; omega
  have hlt : (IntOp.absi (IntOp.subi x y)).toNat < 4096 := by rw [key]; split <;> omega
  unfold IntOp.cmpi
  have e : (IntOp.absi (IntOp.subi x y)).sle 128#32 = decide (a ≤ b + 128 ∧ b ≤ a + 128) := by
    rw [BitVec.sle_eq_decide, decide_eq_decide, BitVec.toInt_eq_toNat_of_lt (by omega), BitVec.toInt_eq_toNat_of_lt (by decide), key]
    simp only [BitVec.toNat_ofNat]
    split <;> omega
  show BitVec.ofBool ((IntOp.absi (IntOp.subi x y)).sle 128#32) = _
  rw [e]
  split <;> rename_i h <;> simp [h]

end Cert.Attn

end
-- ==== Proof.Value.Head.lean ====
/- One head of one block, at an index.

   Block `j` of device `c` is rows `256 ((c + j) % 8) …`. Its 512 window keys start at `winStart c j`, 128 before the block, or
   as near as the array's ends allow. The window holds every position that a row of the block attends to, so the head's
   context is the sum over all 2048 positions. -/
module

public import proofs.«01_k».proof.Proof.Swa.Values
public import proofs.«01_k».proof.Proof.Value.Whole
public import proofs.«01_k».proof.Proof.Value.Words
public import Idealize.ShloMosaic.Lib.Pointwise
public import Idealize.ShloMosaic.Lib.Tactic
public import Idealize.ShloMosaic.Lib.IdealHost

@[expose] public section

set_option maxRecDepth 16384

noncomputable section

namespace Cert.KernelIdeal.Swa

open Idealize.ShloMosaic Idealize.ShloMosaic.TcCoe Idealize.SL.Sem Cert.KernelIdeal.Gen Cert.Attn

/-! ## The block's rows and its window -/

/-- Row `i` of block `(c + j) % 8`. -/
def row (c : Dev nD) (j : Fin 8) (i : Fin 256) : Fin 2048 := ⟨256 * ((c.val + j.val) % 8) + i.val, by omega⟩
/-- Where its window starts. -/
def winStart (c : Dev nD) (j : Fin 8) : ℕ := min 1536 (256 * ((c.val + j.val) % 8) - 128)
/-- Position `w` of the window. -/
def key (c : Dev nD) (j : Fin 8) (w : Fin 512) : Fin 2048 := ⟨winStart c j + w.val, by unfold winStart; omega⟩

theorem key_injective (c : Dev nD) (j : Fin 8) : Function.Injective (key c j) := fun a b h => by
  have h1 : winStart c j + a.val = winStart c j + b.val := congrArg Fin.val h
  exact Fin.ext (by omega)

/-- Every position attended to is in the window. -/
theorem near_mem (c : Dev nD) (j : Fin 8) (i : Fin 256) (p : Fin 2048) (h : Near (row c j i) p) : p ∈ Set.range (key c j) := by
  obtain ⟨h1, h2⟩ := h
  have hp := p.isLt
  have hr : (row c j i).val = 256 * ((c.val + j.val) % 8) + i.val := rfl
  refine ⟨⟨p.val - winStart c j, ?_⟩, Fin.ext ?_⟩
  · unfold winStart; omega
  · show winStart c j + (p.val - winStart c j) = p.val
    unfold winStart; omega

theorem kvOff_eq : ∀ (h : Fin 8) (c : Dev nD) (j : Fin 8), kvOff h c (BitVec.ofNat 32 j.val) = ![h.val, winStart c j, 0] := by decide +kernel

theorem block_word : ∀ (c : Dev nD) (j : Fin 8),
    (Scalar.muli (Scalar.remsi (Scalar.addi (meWord c) (BitVec.ofNat 32 j.val)) 8#32) 256#32).toNat = 256 * ((c.val + j.val) % 8) := by decide +kernel
theorem start_word : ∀ (c : Dev nD) (j : Fin 8),
    (Scalar.minsi 1536#32 (Scalar.maxsi 0#32 (Scalar.subi (Scalar.muli (Scalar.remsi (Scalar.addi (meWord c) (BitVec.ofNat 32 j.val)) 8#32) 256#32) 128#32))).toNat = winStart c j := by decide +kernel

/-- The mask compares the row with the key. -/
theorem maskV_apply (c : Dev nD) (j : Fin 8) (i : Fin 256) (w : Fin 512) : maskV c j (ix2 i w) = if Near (row c j i) (key c j w) then 1#1 else 0#1 := by
  have e := near_word (IntOp.addi (BitVec.ofNat 32 i.val) (Scalar.muli (Scalar.remsi (Scalar.addi (meWord c) (BitVec.ofNat 32 j.val)) 8#32) 256#32))
    (IntOp.addi (BitVec.ofNat 32 w.val) (Scalar.minsi 1536#32 (Scalar.maxsi 0#32 (Scalar.subi (Scalar.muli (Scalar.remsi (Scalar.addi (meWord c) (BitVec.ofNat 32 j.val)) 8#32) 256#32) 128#32))))
    (row c j i).val (key c j w).val
    (by unfold IntOp.addi; rw [BitVec.toNat_add, block_word, BitVec.toNat_ofNat]; show _ = 256 * ((c.val + j.val) % 8) + i.val; omega)
    (by unfold IntOp.addi; rw [BitVec.toNat_add, start_word, BitVec.toNat_ofNat]; show _ = winStart c j + w.val; have : winStart c j ≤ 1536 := by unfold winStart; omega
        omega)
    (by omega) (by omega)
  pointwise [maskV]
  exact e

/-- The named constant is −∞. -/
theorem mask_bot : (Named.named κ "mask" 0xCE6E6B28#32 : Ideal .f32) = ⊥ := rfl

/-- The exponentials of a row's masked scores. -/
theorem expV_apply (h : Fin 8) (q : FVec Ideal S256x1024 .f32) (msk : IVec S256x512 1) (ks : Vec Ideal S1x512x128 .bf16) (i : Fin 256) (w : Fin 512) :
    expV h q msk ks (ix2 i w) = Ideal.exp (if msk (ix2 i w) = 1#1 then ∑ d : Fin 128, q (ix2 i ⟨128 * h.val + d.val, by omega⟩) * ks (ix3 0 w d) else ⊥) := by
  pointwise [expV]
  rw [mask_bot]
  rcases BitVec.eq_zero_or_eq_one (msk (ix2 i w)) with e | e <;> rw [e] <;> rfl

/-- A head's context, from its exponentials. -/
theorem headV_apply (h : Fin 8) (q : FVec Ideal S256x1024 .f32) (msk : IVec S256x512 1) (ks vs : Vec Ideal S1x512x128 .bf16) (i : Fin 256) (d : Fin 128) :
    headV h q msk ks vs (ix2 i d)
      = (∑ w : Fin 512, expV h q msk ks (ix2 i w) * vs (ix3 0 w d)) * Ideal.div 1 (∑ w : Fin 512, expV h q msk ks (ix2 i w)) := by
  pointwise [headV]

end Cert.KernelIdeal.Swa

end
-- ==== Proof.Value.Device.lean ====
/- What each device computes, in terms of the whole arrays.

   `Holds V X WQ K W WO` says that the devices' arrays are the shards of whole arrays: `x`, `Wq` and `Wo` whole on every
   device, the keys and values of heads `8c …` on device `c`. A device's context in its head `h` is then the problem's context
   in head `8c + h`, its contribution to a row is the part of the output projection's sum over its own heads, the sum of the
   eight contributions is the whole projection, and every device ends with all of it. -/
module

public import proofs.«01_k».proof.Proof.Value.Head

@[expose] public section

set_option maxRecDepth 16384

noncomputable section

namespace Cert.KernelIdeal.Swa

open Idealize.ShloMosaic Idealize.ShloMosaic.TcCoe Idealize.SL.Sem Cert.KernelIdeal.Gen Cert.Attn

/-- Head `h` of device `c` among the 64. -/
def glob (c : Dev nD) (h : Fin 8) : Fin 64 := ⟨8 * c.val + h.val, by have : c.val < 8 := c.isLt; omega⟩
/-- Lane `d` of head `h` among a device's 1024 columns. -/
def lane (h : Fin 8) (d : Fin 128) : Fin 1024 := ⟨128 * h.val + d.val, by omega⟩

variable (V : Dev nD → Valuation τ sig (Elt Ideal))
variable (X : Fin 2048 → Fin 1024 → EReal) (WQ : Fin 1024 → Fin 8192 → EReal) (K W : Fin 2048 → Fin 64 → Fin 128 → EReal) (WO : Fin 8192 → Fin 1024 → EReal)

/-- The devices' arrays are shards of whole arrays. -/
structure Holds : Prop where
  x : ∀ c r n, V c main_arg0 (ix3 (0 : Fin 1) (r : Fin 2048) (n : Fin 1024) : S1x2048x1024.Idx) = X r n
  wq : ∀ c n l, V c main_arg1 (ix2 (n : Fin 1024) (l : Fin 8192) : S1024x8192.Idx) = WQ n l
  k : ∀ c r h d, V c main_v2 (ix2 (r : Fin 2048) (lane h d) : S2048x1024.Idx) = K r (glob c h) d
  v : ∀ c r h d, V c main_v4 (ix2 (r : Fin 2048) (lane h d) : S2048x1024.Idx) = W r (glob c h) d
  wo : ∀ c l o, V c main_arg4 (ix2 (l : Fin 8192) (o : Fin 1024) : S8192x1024.Idx) = WO l o

variable {V X WQ K W WO}

/-! ## The loads -/

theorem xC_apply (hv : Holds V X WQ K W WO) (c : Dev nD) (r : Fin 2048) (n : Fin 1024) : xC V c (ix2 r n) = X r n := by
  rw [← hv.x c r n]
  have e : Shape.reshapeEquiv squeezes_S1x2048x1024_S2048x1024.numel_eq (ix2 r n) = ix3 (0 : Fin 1) r n :=
    Shape.reshapeEquiv_eq_of_rowMajor _ ((Shape.rowMajor_val_three (d := ![1, 2048, 1024]) _).trans (Eq.trans (by
      show ((0 : ℕ) * 2048 + r.val) * 1024 + n.val = r.val * 1024 + n.val; omega)
      (Shape.rowMajor_val_two (d := ![2048, 1024]) (ix2 r n)).symm))
  show V c main_arg0 ((Rect.unit (s := S1x2048x1024) ![0, 0, 0] S1x2048x1024.size inb_S1x2048x1024_S1x2048x1024_0_0_0).emb (Shape.reshapeEquiv squeezes_S1x2048x1024_S2048x1024.numel_eq (ix2 r n))) = _
  rw [e]
  refine congrArg (V c main_arg0) (funext fun a => Fin.ext ?_)
  fin_cases a
  · show 0 + 1 * 0 = 0; omega
  · show 0 + 1 * r.val = r.val; omega
  · show 0 + 1 * n.val = n.val; omega

theorem col_glob (c : Dev nD) (h : Fin 8) (d : Fin 128) : (col (glob c h) d).val = 1024 * c.val + (lane h d).val := by
  show (8 * c.val + h.val) * 128 + d.val = 1024 * c.val + (128 * h.val + d.val)
  omega

theorem wqC_apply (hv : Holds V X WQ K W WO) (c : Dev nD) (n : Fin 1024) (h : Fin 8) (d : Fin 128) : wqC V c (ix2 n (lane h d)) = WQ n (col (glob c h) d) := by
  rw [← hv.wq c n]
  show V c main_arg1 ((Rect.unit (s := S1024x8192) (k0_off1 c) S1024x1024.size (k0_off1_inb c)).emb (ix2 n (lane h d))) = _
  refine congrArg (V c main_arg1) (funext fun a => Fin.ext ?_)
  show k0_off1 c a + 1 * ((ix2 n (lane h d) : S1024x1024.Idx) a).val = _
  rw [k0_off1_eq]
  fin_cases a
  · show 0 + 1 * n.val = n.val; omega
  · show 1024 * c.val + 1 * (lane h d).val = (col (glob c h) d).val; rw [col_glob]; omega

theorem woC_apply (hv : Holds V X WQ K W WO) (c : Dev nD) (h : Fin 8) (d : Fin 128) (o : Fin 1024) : woC V c (ix2 (lane h d) o) = WO (col (glob c h) d) o := by
  rw [← hv.wo c]
  show V c main_arg4 ((Rect.unit (s := S8192x1024) (k0_off2 c) S1024x1024.size (k0_off2_inb c)).emb (ix2 (lane h d) o)) = _
  refine congrArg (V c main_arg4) (funext fun a => Fin.ext ?_)
  show k0_off2 c a + 1 * ((ix2 (lane h d) o : S1024x1024.Idx) a).val = _
  rw [k0_off2_eq]
  fin_cases a
  · show 1024 * c.val + 1 * (lane h d).val = (col (glob c h) d).val; rw [col_glob]; omega
  · show 0 + 1 * o.val = o.val; omega

theorem wqbC_apply (hv : Holds V X WQ K W WO) (c : Dev nD) (n : Fin 1024) (h : Fin 8) (d : Fin 128) :
    wqbC V c (ix2 n (lane h d)) = WQ n (col (glob c h) d) * (factor : EReal) := by
  rw [← wqC_apply hv, factor_coe]
  unfold wqbC
  generalize wqC V c = f
  generalize lane h d = l
  pointwise [k0_pay1]

theorem wobC_apply (hv : Holds V X WQ K W WO) (c : Dev nD) (h : Fin 8) (d : Fin 128) (o : Fin 1024) : wobC V c (ix2 (lane h d) o) = WO (col (glob c h) d) o := by
  rw [← woC_apply hv]
  unfold wobC
  generalize woC V c = f
  generalize lane h d = l
  pointwise [k0_pay12]

theorem read_x (hv : Holds V X WQ K W WO) (c : Dev nD) (j : Fin 8) (i : Fin 256) (n : Fin 1024) :
    xM.view.readAt (Elt Ideal) (xRect c j).toLoadRect (xC V c) (ix2 i n) = X (row c j i) n := by
  rw [← xC_apply hv c]
  show xC V c ((xRect c j).emb (ix2 i n)) = _
  refine congrArg (xC V c) (funext fun a => Fin.ext ?_)
  show k0_off3 c (BitVec.ofNat 32 j.val) a + 1 * ((ix2 i n : S256x1024.Idx) a).val = _
  rw [k0_off3_eq c j]
  fin_cases a
  · show 256 * ((c.val + j.val) % 8) + 1 * i.val = 256 * ((c.val + j.val) % 8) + i.val; omega
  · show 0 + 1 * n.val = n.val; omega

/-- A window of a head's slab. -/
theorem read_window (f : Vec Ideal S2048x1024 .bf16) (c : Dev nD) (j h : Fin 8) (w : Fin 512) (d : Fin 128) :
    kM.view.readAt (Elt Ideal) (kvRect c j h).toLoadRect (slabs f) (ix3 0 w d) = f (ix2 (key c j w) (lane h d)) := by
  show slabs f ((kvRect c j h).emb (ix3 0 w d)) = _
  have e : (kvRect c j h).emb (ix3 0 w d) = ix3 h (key c j w) d := by
    refine funext fun a => Fin.ext ?_
    show kvOff h c (BitVec.ofNat 32 j.val) a + 1 * ((ix3 0 w d : S1x512x128.Idx) a).val = _
    rw [kvOff_eq]
    fin_cases a
    · show h.val + 1 * 0 = h.val; omega
    · show winStart c j + 1 * w.val = winStart c j + w.val; omega
    · show 0 + 1 * d.val = d.val; omega
  rw [e]
  rfl

theorem read_k (hv : Holds V X WQ K W WO) (c : Dev nD) (j h : Fin 8) (w : Fin 512) (d : Fin 128) :
    kM.view.readAt (Elt Ideal) (kvRect c j h).toLoadRect (kC V c) (ix3 0 w d) = K (key c j w) (glob c h) d :=
  (read_window (V c main_v2) c j h w d).trans (hv.k c _ h d)
theorem read_v (hv : Holds V X WQ K W WO) (c : Dev nD) (j h : Fin 8) (w : Fin 512) (d : Fin 128) :
    vM.view.readAt (Elt Ideal) (kvRect c j h).toLoadRect (vC V c) (ix3 0 w d) = W (key c j w) (glob c h) d :=
  (read_window (V c main_v4) c j h w d).trans (hv.v c _ h d)

/-! ## The context -/

theorem qV_apply (hv : Holds V X WQ K W WO) (c : Dev nD) (j : Fin 8) (i : Fin 256) (h : Fin 8) (d : Fin 128) :
    qV V c j (ix2 i (lane h d)) = ∑ n : Fin 1024, X (row c j i) n * (WQ n (col (glob c h) d) * (factor : EReal)) := by
  simp only [← wqbC_apply hv c, ← read_x hv c j i]
  unfold qV
  generalize xM.view.readAt (Elt Ideal) (xRect c j).toLoadRect (xC V c) = f
  generalize wqbC V c = g
  generalize lane h d = l
  pointwise [k0_pay2]

/-- A row's exponential at a position of its window. -/
theorem exp_row (hv : Holds V X WQ K W WO) (hr : Real3 X WQ K) (c : Dev nD) (j h : Fin 8) (i : Fin 256) (w : Fin 512) :
    expV h (qV V c j) (maskV c j) (kM.view.readAt (Elt Ideal) (kvRect c j h).toLoadRect (kC V c)) (ix2 i w)
      = Ideal.exp (masked (Near (row c j i)) (score X WQ K (glob c h) (row c j i)) (key c j w)) := by
  rw [expV_apply, maskV_apply]
  simp only [read_k hv, show ∀ d : Fin 128, (⟨128 * h.val + d.val, by omega⟩ : Fin 1024) = lane h d from fun _ => rfl, qV_apply hv, score_early hr]
  unfold masked
  by_cases e : Near (row c j i) (key c j w)
  · rw [if_pos e, if_pos e]; rfl
  · rw [if_neg e, if_neg e]; rfl

theorem hV_apply (hv : Holds V X WQ K W WO) (hr : Real3 X WQ K) (c : Dev nD) (j h : Fin 8) (i : Fin 256) (d : Fin 128) :
    hV V c j h (ix2 i d) = context X WQ K W (glob c h) (row c j i) d := by
  unfold hV
  rw [headV_apply]
  simp only [exp_row hv hr, read_v hv]
  exact window_row (Near (row c j i)) _ (near_self _) (fun p => W p (glob c h) d) (key c j) (key_injective c j) (near_mem c j i)

theorem ctxC_apply (hv : Holds V X WQ K W WO) (hr : Real3 X WQ K) (c : Dev nD) (j : Fin 8) (i : Fin 256) (h : Fin 8) (d : Fin 128) :
    ctxC V c j (ix2 i (lane h d)) = context X WQ K W (glob c h) (row c j i) d := by
  rw [← hV_apply hv hr]
  show hV V c j (ctxKey (ix2 i (lane h d))) (ix2 i _) = _
  have e1 : ctxKey (ix2 i (lane h d)) = h := Fin.ext (by show (128 * h.val + d.val) / 128 = h.val; omega)
  rw [e1]
  exact congrArg (fun d' => hV V c j h (ix2 i d')) (Fin.ext (by show (128 * h.val + d.val) % 128 = d.val; omega))

/-! ## The contributions -/

variable (X WQ K W WO)

/-- What device `c`'s heads add to row `r` of the result. -/
def contrib (c : Dev nD) (r : Fin 2048) (o : Fin 1024) : EReal :=
  ∑ h : Fin 8, ∑ d : Fin 128, context X WQ K W (glob c h) r d * WO (col (glob c h) d) o

/-- The eight devices' contributions make the result. -/
theorem sum_contrib (r : Fin 2048) (o : Fin 1024) : ∑ c : Dev nD, contrib X WQ K W WO c r o = result X WQ K W WO r o := by
  unfold contrib result
  rw [← Fintype.sum_prod_type']
  exact Fintype.sum_equiv (finProdFinEquiv (m := 8) (n := 8)) _ (fun g : Fin 64 => ∑ d : Fin 128, context X WQ K W g r d * WO (col g d) o) fun p =>
    congrArg (fun g : Fin 64 => ∑ d : Fin 128, context X WQ K W g r d * WO (col g d) o) (Fin.ext (by
      show 8 * p.1.val + p.2.val = p.2.val + 8 * p.1.val
      omega))

theorem sum_lane (f : Fin 1024 → EReal) : ∑ n, f n = ∑ h : Fin 8, ∑ d : Fin 128, f (lane h d) := by
  rw [← Fintype.sum_prod_type']
  exact (Fintype.sum_equiv (finProdFinEquiv (m := 8) (n := 128)) _ _ fun p => congrArg f (Fin.ext (by
    show 128 * p.1.val + p.2.val = p.2.val + 128 * p.1.val
    omega))).symm

variable {X WQ K W WO}

theorem pV_apply (hv : Holds V X WQ K W WO) (hr : Real3 X WQ K) (c : Dev nD) (j : Fin 8) (i : Fin 256) (o : Fin 1024) :
    pV V c j (ix2 i o) = contrib X WQ K W WO c (row c j i) o := by
  have e : pV V c j (ix2 i o) = ∑ n : Fin 1024, ctxC V c j (ix2 i n) * wobC V c (ix2 n o) := by
    unfold pV
    generalize ctxC V c j = f
    generalize wobC V c = g
    pointwise [k0_pay13]
  rw [e, sum_lane]
  simp only [ctxC_apply hv hr, wobC_apply hv]
  rfl

end Cert.KernelIdeal.Swa

end
-- ==== Proof.Value.Exchange.lean ====
/- The exchange, at an index: the sum of the eight contributions, and where each block of the output comes from. -/
module

public import proofs.«01_k».proof.Proof.Value.Device

@[expose] public section

set_option maxRecDepth 16384

noncomputable section

namespace Cert.KernelIdeal.Swa

open Idealize.ShloMosaic Idealize.ShloMosaic.TcCoe Idealize.SL.Sem Cert.KernelIdeal.Gen Cert.Attn

variable {V : Dev nD → Valuation τ sig (Elt Ideal)}
variable {X : Fin 2048 → Fin 1024 → EReal} {WQ : Fin 1024 → Fin 8192 → EReal} {K W : Fin 2048 → Fin 64 → Fin 128 → EReal} {WO : Fin 8192 → Fin 1024 → EReal}

/-- Row `i` of block `g`. -/
def rowOf (g : Dev nD) (i : Fin 256) : Fin 2048 := ⟨256 * g.val + i.val, by have : g.val < 8 := g.isLt; omega⟩

theorem row_zero (c : Dev nD) (i : Fin 256) : row c 0 i = rowOf c i :=
  Fin.ext (by have : c.val < 8 := c.isLt; show 256 * ((c.val + 0) % 8) + i.val = 256 * c.val + i.val; omega)

/-- The device whose slot `s` sends to `c` computed block `c` there. -/
theorem row_from (c : Dev nD) (s : Fin 7) (i : Fin 256) : row (fwd c s.rev) s.succ i = rowOf c i := Fin.ext (by
  have hc : c.val < 8 := c.isLt
  have hs := s.isLt
  have h1 : (fwd c s.rev).val = (c.val + s.rev.val + 1) % 8 := rfl
  have h2 : s.rev.val = 7 - (s.val + 1) := rfl
  have h3 : s.succ.val = s.val + 1 := rfl
  show 256 * (((fwd c s.rev).val + s.succ.val) % 8) + i.val = 256 * c.val + i.val
  omega)

theorem read_rs (f : Fin 7 → FVec Ideal S256x1024 .bf16) (s : Fin 7) (i : Fin 256) (o : Fin 1024) :
    rsM.view.readAt (Elt Ideal) (slotRect s).toLoadRect (stack f) (ix3 0 i o) = f s (ix2 i o) := stack_slot f s (ix3 0 i o)

/-- The running sum. -/
theorem accV_apply (hv : Holds V X WQ K W WO) (hr : Real3 X WQ K) (c : Dev nD) (i : Fin 256) (o : Fin 1024) (n : ℕ) (hn : n ≤ 7) :
    accV V c n (ix2 i o) = contrib X WQ K W WO c (rowOf c i) o + ∑ s : Fin n, contrib X WQ K W WO (fwd c (Fin.castLE hn s).rev) (rowOf c i) o := by
  induction n with
  | zero =>
    rw [Fin.sum_univ_zero, add_zero, ← row_zero, ← pV_apply hv hr]
    unfold accV
    generalize pV V c 0 = f
    pointwise [k0_pay164]
  | succ n ih =>
    have h : n < 7 := hn
    have e : accV V c (n + 1) = k0_pay165 (accV V c n) (rsM.view.readAt (Elt Ideal) (slotRect ⟨n, h⟩).toLoadRect (rsC V c)) := dif_pos h
    have e2 : ∀ (a : FVec Ideal S256x1024 .f32) (b : Vec Ideal S1x256x1024 .bf16), k0_pay165 a b (ix2 i o) = a (ix2 i o) + b (ix3 0 i o) := by
      intro a b
      pointwise [k0_pay165]
    rw [e, e2, ih (by omega), Fin.sum_univ_castSucc, add_assoc]
    refine congrArg (_ + ·) (congrArg (_ + ·) ?_)
    rw [show (Fin.castLE hn (Fin.last n)) = ⟨n, h⟩ from rfl, ← row_from c ⟨n, h⟩ i, ← pV_apply hv hr]
    exact read_rs _ _ i o

/-- The eight contributions, each device once. -/
def source (c : Dev nD) (j : Fin 8) : Dev nD := Fin.cases c (fun s => fwd c s.rev) j
theorem source_injective : ∀ c : Dev nD, Function.Injective (source c) := by decide +kernel

theorem sumV_apply (hv : Holds V X WQ K W WO) (hr : Real3 X WQ K) (c : Dev nD) (i : Fin 256) (o : Fin 1024) :
    sumV V c (ix2 i o) = result X WQ K W WO (rowOf c i) o := by
  rw [show sumV V c = accV V c 7 from rfl, accV_apply hv hr c i o 7 le_rfl, ← sum_contrib]
  refine Eq.trans (Fin.sum_univ_succ fun j : Fin 8 => contrib X WQ K W WO (source c j) (rowOf c i) o).symm ?_
  exact (Finite.injective_iff_bijective.mp (source_injective c)).sum_comp fun d => contrib X WQ K W WO d (rowOf c i) o

theorem redC_apply (hv : Holds V X WQ K W WO) (hr : Real3 X WQ K) (c : Dev nD) (i : Fin 256) (o : Fin 1024) :
    redC V c (ix2 i o) = result X WQ K W WO (rowOf c i) o := by
  rw [← sumV_apply hv hr]
  unfold redC
  generalize sumV V c = f
  pointwise [k0_pay174]

/-- A block of the output. -/
theorem outV_apply (hv : Holds V X WQ K W WO) (hr : Real3 X WQ K) (c : Dev nD) (j : Fin 8) (i : Fin 256) (o : Fin 1024) :
    outV V c j (ix3 0 i o) = result X WQ K W WO (row c j i) o := by
  obtain ⟨j, hj⟩ := j
  cases j with
  | zero =>
    rw [show (⟨0, hj⟩ : Fin 8) = 0 from rfl, row_zero, ← sumV_apply hv hr]
    show k0_pay173 (sumV V c) (ix3 0 i o) = _
    generalize sumV V c = f
    pointwise [k0_pay173]
  | succ s =>
    have hs : s < 7 := Nat.lt_of_succ_lt_succ hj
    have e1 : ∀ b : Vec Ideal S1x256x1024 .bf16, k0_pay182 b (ix3 0 i o) = b (ix3 0 i o) := by
      intro b
      pointwise [k0_pay182]
    have e2 : row c ⟨s + 1, hj⟩ i = rowOf (fwd c ⟨s, hs⟩) i := Fin.ext (by
      show 256 * ((c.val + (s + 1)) % 8) + i.val = 256 * ((c.val + s + 1) % 8) + i.val
      rw [Nat.add_assoc])
    rw [e2, ← redC_apply hv hr]
    refine (e1 _).trans ((read_rs (fun t => redC V (fwd c t.rev)) (Fin.rev ⟨s, hs⟩) i o).trans ?_)
    rw [Fin.rev_rev]

/-- The whole output of every device. -/
theorem outC_apply (hv : Holds V X WQ K W WO) (hr : Real3 X WQ K) (c : Dev nD) (r : Fin 2048) (o : Fin 1024) :
    outC V c (ix3 0 r o) = result X WQ K W WO r o := by
  have hc : c.val < 8 := c.isLt
  refine (outV_apply hv hr c (outKey c (ix3 0 r o)) ⟨r.val % 256, Nat.mod_lt _ (by decide)⟩ o).trans ?_
  refine congrArg (fun r => result X WQ K W WO r o) (Fin.ext ?_)
  show 256 * ((c.val + (r.val / 256 + 8 - c.val) % 8) % 8) + r.val % 256 = r.val
  omega

end Cert.KernelIdeal.Swa

end
-- ==== Proof.Value.Reference.lean ====
/- The reference's result at an index.

   The reference is cut at its own intermediate arrays: the mask, the scores, the masked scores, their exponentials, the
   weights, the context. Each is read at an index from the one before it, and the last is `Attn.result`. -/
module

public import proofs.«01_k».proof.Proof.Gen.ReferenceIdeal.Run
public import proofs.«01_k».proof.Proof.Value.Whole
public import Idealize.ShloMosaic.Lib.Pointwise
public import Idealize.ShloMosaic.Lib.Tactic
public import Idealize.ShloMosaic.Lib.IdealHost
public import Idealize.ShloMosaic.Lib.Routing.OpsOrder
public import proofs.«01_k».proof.Proof.Value.Words

@[expose] public section

set_option maxRecDepth 16384

noncomputable section

namespace Cert.ReferenceIdeal.Value

open Cert.ReferenceIdeal Cert.ReferenceIdeal.Gen Idealize.ShloMosaic Idealize.ShloMosaic.TcCoe

variable (x : FVec Ideal S1x2048x1024 .f32) (wq : FVec Ideal S1024x8192 .f32) (k v : FVec Ideal S1x2048x64x128 .f32) (wo : FVec Ideal S8192x1024 .f32)

/-! ## The intermediate arrays -/

def rMask : IVec S2048x2048 1 :=
  cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))

def rScore : FVec Ideal S1x64x2048x2048 .f32 :=
  mulf (Host.dotGeneral dot_S1x2048x64x128_S1x2048x64x128_S1x64x2048x2048_3_3_1_1_02_02 none (shapeCast _ (Host.dotGeneral dot_S1x2048x1024_S1024x8192_S1x2048x8192_2_0_01_1_n_n none x wq) shapeCasts_S1x2048x8192_S1x2048x64x128) k) (broadcastInDim S1x64x2048x2048 ![] bcast_S_S1x64x2048x2048 (constant S_ .f32 0x3DB504F3#32))

def rMasked (a : IVec S2048x2048 1) (s : FVec Ideal S1x64x2048x2048 .f32) : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 a)) s (broadcastInDim S1x64x2048x2048 ![] bcast_S_S1x64x2048x2048 (id (constant S_ .f32 0xFF800000#32)))

def rMax (s : FVec Ideal S1x64x2048x2048 .f32) : FVec Ideal S1x64x2048 .f32 :=
  Host.reduce FloatOps.maximumf s (constant S_ .f32 0xFF800000#32) reducesTo_S1x64x2048x2048_S1x64x2048_d3 h_S_

def rExp (s : FVec Ideal S1x64x2048x2048 .f32) (mx : FVec Ideal S1x64x2048 .f32) : FVec Ideal S1x64x2048x2048 .f32 :=
  Host.exp (subf s (broadcastInDim S1x64x2048x2048 ![0, 1, 2, 3] bcast_S1x64x2048x1_S1x64x2048x2048_0_1_2_3 (broadcastInDim S1x64x2048x1 ![0, 1, 2] bcast_S1x64x2048_S1x64x2048x1_0_1_2 mx)))

def rKeep (a : IVec S2048x2048 1) : IVec S1x1x2048x1 1 :=
  broadcastInDim S1x1x2048x1 ![2] bcast_S2048_S1x1x2048x1_2 (Host.reduce IntOp.ori a (constantI S_ 1 0#1) reducesTo_S2048x2048_S2048_d1 h_S_)

def rWeight (a : IVec S1x1x2048x1 1) (e : FVec Ideal S1x64x2048x2048 .f32) : FVec Ideal S1x64x2048x2048 .f32 :=
  select (broadcastInDim S1x64x2048x2048 ![0, 1, 2, 3] bcast_S1x1x2048x1_S1x64x2048x2048_0_1_2_3 a)
    (Host.divf e (broadcastInDim S1x64x2048x2048 ![0, 1, 2, 3] bcast_S1x64x2048x1_S1x64x2048x2048_0_1_2_3
      (select (broadcastInDim S1x64x2048x1 ![0, 1, 2, 3] bcast_S1x1x2048x1_S1x64x2048x1_0_1_2_3 a)
        (broadcastInDim S1x64x2048x1 ![0, 1, 2] bcast_S1x64x2048_S1x64x2048x1_0_1_2 (Host.reduceAdd e (constant S_ .f32 0x00000000#32) reducesTo_S1x64x2048x2048_S1x64x2048_d3 h_S_))
        (broadcastInDim S1x64x2048x1 ![] bcast_S_S1x64x2048x1 (id (constant S_ .f32 0x3F800000#32))))))
    (broadcastInDim S1x64x2048x2048 ![] bcast_S_S1x64x2048x2048 (id (constant S_ .f32 0x00000000#32)))

def rContext (p : FVec Ideal S1x64x2048x2048 .f32) : FVec Ideal S1x2048x64x128 .f32 :=
  transpose S1x2048x64x128 [0, 3, 1, 2] (Host.dotGeneral dot_S1x2048x64x128_S1x64x2048x2048_S1x64x128x2048_1_3_3_2_02_01 none v p) transposes_S1x64x128x2048_S1x2048x64x128_0_3_1_2

def rResult (t : FVec Ideal S1x2048x64x128 .f32) : FVec Ideal S1x2048x1024 .f32 :=
  Host.dotGeneral dot_S1x2048x8192_S8192x1024_S1x2048x1024_2_0_01_1_n_n none (shapeCast _ t shapeCasts_S1x2048x64x128_S1x2048x8192) wo

/-- The printed result is the last of these arrays. -/
theorem res_stages (m : (ℓ : Loc nD τ sig) → Buf (Elt Ideal) ℓ) (c : Dev nD) :
    res_main_v34 (F := Ideal) m c =
      rResult (m ((c.tc : Thread nD τ).loc main_arg4)) (rContext (m ((c.tc : Thread nD τ).loc main_arg3))
        (rWeight (rKeep rMask)
          (rExp (rMasked rMask (rScore (m ((c.tc : Thread nD τ).loc main_arg0)) (m ((c.tc : Thread nD τ).loc main_arg1)) (m ((c.tc : Thread nD τ).loc main_arg2))))
            (rMax (rMasked rMask (rScore (m ((c.tc : Thread nD τ).loc main_arg0)) (m ((c.tc : Thread nD τ).loc main_arg1)) (m ((c.tc : Thread nD τ).loc main_arg2)))))))) := rfl

/-! ## Each at an index -/

open Cert.Attn

theorem rMask_apply (r c : Fin 2048) : rMask (ix2 r c) = if Near r c then 1#1 else 0#1 := by
  pointwise [rMask]
  exact near_word _ _ r.val c.val (by simp; omega) (by simp; omega) (by omega) (by omega)

theorem rScore_apply (h : Fin 64) (r c : Fin 2048) :
    rScore x wq k (ix4 0 h r c) = (∑ d : Fin 128, (∑ n : Fin 1024, x (ix3 0 r n) * wq (ix2 n (col h d))) * k (ix4 0 c h d)) * (factor : EReal) := by
  rw [factor_coe]
  pointwise [rScore]
  rfl

theorem rMasked_apply (a : IVec S2048x2048 1) (s : FVec Ideal S1x64x2048x2048 .f32) (h : Fin 64) (r c : Fin 2048) :
    rMasked a s (ix4 0 h r c) = if a (ix2 r c) = 1#1 then s (ix4 0 h r c) else ⊥ := by
  pointwise [rMasked]
  rw [show (id (constant (F := Ideal) S_ .f32 0xFF800000#32) ix0) = ⊥ from ofBits_bot]
  rcases BitVec.eq_zero_or_eq_one (a (ix2 r c)) with e | e <;> rw [e] <;> rfl

theorem rMax_apply (s : FVec Ideal S1x64x2048x2048 .f32) (h : Fin 64) (r : Fin 2048) :
    rMax s (ix3 0 h r) = Finset.univ.fold max ⊥ fun c => s (ix4 0 h r c) := by
  pointwise [rMax]
  rw [ofBits_bot]

theorem rExp_apply (s : FVec Ideal S1x64x2048x2048 .f32) (mx : FVec Ideal S1x64x2048 .f32) (h : Fin 64) (r c : Fin 2048) :
    rExp s mx (ix4 0 h r c) = Ideal.exp (s (ix4 0 h r c) - mx (ix3 0 h r)) := by
  pointwise [rExp]

theorem rKeep_apply (a : IVec S2048x2048 1) (r : Fin 2048) (ha : ∃ c, a (ix2 r c) = 1#1) : rKeep a (ix4 0 0 r 0) = 1#1 := by
  pointwise [rKeep]
  obtain ⟨c, hc⟩ := ha
  exact (Routing.fold_ori _ _).mpr ⟨c, Finset.mem_univ _, hc⟩

theorem rWeight_apply (a : IVec S1x1x2048x1 1) (e : FVec Ideal S1x64x2048x2048 .f32) (h : Fin 64) (r c : Fin 2048) (ha : a (ix4 0 0 r 0) = 1#1) :
    rWeight a e (ix4 0 h r c) = Ideal.div (e (ix4 0 h r c)) (∑ c', e (ix4 0 h r c')) := by
  pointwise [rWeight]
  rw [ha]
  rfl

theorem rContext_apply (p : FVec Ideal S1x64x2048x2048 .f32) (r : Fin 2048) (h : Fin 64) (d : Fin 128) :
    rContext v p (ix4 0 r h d) = ∑ c, v (ix4 0 c h d) * p (ix4 0 h r c) := by
  pointwise [rContext]

theorem rResult_apply (t : FVec Ideal S1x2048x64x128 .f32) (r : Fin 2048) (o : Fin 1024) :
    rResult wo t (ix3 0 r o) = ∑ h : Fin 64, ∑ d : Fin 128, t (ix4 0 r h d) * wo (ix2 (col h d) o) := by
  pointwise [rResult]
  rw [sum_col]
  refine Finset.sum_congr rfl fun h _ => Finset.sum_congr rfl fun d _ => ?_
  have e1 : (⟨(col h d).val / 128, by omega⟩ : Fin 64) = h := Fin.ext (by show (h.val * 128 + d.val) / 128 = h.val; omega)
  have e2 : (⟨(col h d).val % 128, by omega⟩ : Fin 128) = d := Fin.ext (by show (h.val * 128 + d.val) % 128 = d.val; omega)
  rw [e1, e2]

/-! ## The result -/

variable {x wq k v wo}

/-- The reference's result is the problem's, when the entries the scores are made of are reals. -/
theorem reference_result (hr : Real3 (fun r n => x (ix3 0 r n)) (fun n c => wq (ix2 n c)) (fun c h d => k (ix4 0 c h d))) (r : Fin 2048) (o : Fin 1024) :
    rResult wo (rContext v (rWeight (rKeep rMask) (rExp (rMasked rMask (rScore x wq k)) (rMax (rMasked rMask (rScore x wq k)))))) (ix3 0 r o)
      = result (fun r n => x (ix3 0 r n)) (fun n c => wq (ix2 n c)) (fun c h d => k (ix4 0 c h d)) (fun c h d => v (ix4 0 c h d)) (fun n o => wo (ix2 n o)) r o := by
  have hm : ∀ h (r c : Fin 2048), rMasked rMask (rScore x wq k) (ix4 0 h r c) = masked (Near r) (score (fun r n => x (ix3 0 r n)) (fun n c => wq (ix2 n c)) (fun c h d => k (ix4 0 c h d)) h r) c := by
    intro h r c
    rw [rMasked_apply, rMask_apply, rScore_apply, score_late hr]
    unfold masked
    by_cases e : Near r c
    · rw [if_pos e, if_pos e]; rfl
    · rw [if_neg e, if_neg e]; rfl
  rw [rResult_apply]
  refine Finset.sum_congr rfl fun h _ => Finset.sum_congr rfl fun d _ => ?_
  refine congrArg (· * wo (ix2 (col h d) o)) ?_
  rw [rContext_apply]
  refine Finset.sum_congr rfl fun c _ => ?_
  have hk : rKeep rMask (ix4 0 0 r 0) = 1#1 := by
    obtain ⟨c, hc⟩ := near_self r
    exact rKeep_apply _ _ ⟨c, by rw [rMask_apply, if_pos hc]⟩
  rw [rWeight_apply _ _ _ _ _ hk]
  simp only [rExp_apply, rMax_apply, hm]
  unfold weight
  rw [softmax_share (Near r) _ (near_self r) _ rfl]

end Cert.ReferenceIdeal.Value

end
-- ==== Proof.Value.Same.lean ====
/- The kernel on eight devices computes the reference's result.

   The host hands the kernel its keys and values as [2048, 1024] arrays; the precondition says that `x`, `Wq` and the keys are
   finite. So the devices hold shards of whole arrays whose scores are reals, every device ends with the problem's result,
   and so does the reference. -/
module

public import proofs.«01_k».proof.Proof.Swa.Frames
public import proofs.«01_k».proof.Proof.Value.Exchange
public import proofs.«01_k».proof.Proof.Value.Reference
public import Idealize.ShloMosaic.Lib.StableHlo.ReadAt
public import Idealize.ShloMosaic.Lib.Layout

@[expose] public section

set_option maxRecDepth 16384

noncomputable section

namespace Cert.Proof

open Idealize.ShloMosaic Idealize.ShloMosaic.TcCoe Idealize.SL.Sem Cert.Attn

/-! ## Finite entries -/

/-- An entry whose absolute value is below +∞ is a real. -/
theorem real_of_below (y : EReal) (h : Ideal.cmp .olt (max y (-y)) (Ideal.ofBits .f32 0x7F800000#32) = 1#1) : ((y.toReal : ℝ) : EReal) = y := by
  have ht : Ideal.ofBits .f32 0x7F800000#32 = ⊤ := by simp [Ideal.ofBits, Ideal.ieee]
  rw [ht] at h
  have hl : max y (-y) < ⊤ := by
    by_contra hn
    have : Ideal.cmp .olt (max y (-y)) ⊤ = 0#1 := by
      show BitVec.ofBool (decide (max y (-y) < ⊤)) = 0#1
      rw [decide_eq_false hn]; rfl
    rw [this] at h
    exact absurd h (by decide)
  refine EReal.coe_toReal (ne_of_lt (lt_of_le_of_lt (le_max_left _ _) hl)) fun hb => ?_
  rw [hb] at hl
  exact absurd (lt_of_le_of_lt (le_max_right _ _) hl) (by simp)

section Finite

open Cert.Pre_finite_scores_KernelIdeal Cert.Pre_finite_scores_KernelIdeal.Gen

variable {x : FVec Ideal S1x2048x1024 .f32} {wq : FVec Ideal S1024x8192 .f32} {k v : FVec Ideal S1x2048x8x128 .f32} {wo : FVec Ideal S8192x1024 .f32}

theorem finite_x (h : (fn (F := Ideal) x wq k v wo).1 = fun _ => 1#1) (r : Fin 2048) (n : Fin 1024) : (((x (ix3 0 r n)).toReal : ℝ) : EReal) = x (ix3 0 r n) := by
  have e := congrFun h (ix3 0 r n)
  pointwise [fn] at e
  exact real_of_below _ e
theorem finite_wq (h : (fn (F := Ideal) x wq k v wo).2.1 = fun _ => 1#1) (n : Fin 1024) (l : Fin 8192) : (((wq (ix2 n l)).toReal : ℝ) : EReal) = wq (ix2 n l) := by
  have e := congrFun h (ix2 n l)
  pointwise [fn] at e
  exact real_of_below _ e
theorem finite_k (h : (fn (F := Ideal) x wq k v wo).2.2 = fun _ => 1#1) (r : Fin 2048) (g : Fin 8) (d : Fin 128) : (((k (ix4 0 r g d)).toReal : ℝ) : EReal) = k (ix4 0 r g d) := by
  have e := congrFun h (ix4 0 r g d)
  pointwise [fn] at e
  exact real_of_below _ e

end Finite

/-! ## The host's reshapes, and the cut along the heads -/

section Host

open Cert.KernelIdeal Cert.KernelIdeal.Gen Cert.KernelIdeal.Swa

variable (m : (ℓ : Loc nD τ sig) → Buf (Elt Ideal) ℓ) (c : Dev nD)

theorem lane_head (h : Fin 8) (d : Fin 128) (e : (lane h d).val / 128 < 8) : (⟨(lane h d).val / 128, e⟩ : Fin 8) = h :=
  Fin.ext (by show (128 * h.val + d.val) / 128 = h.val; omega)
theorem lane_lane (h : Fin 8) (d : Fin 128) (e : (lane h d).val % 128 < 128) : (⟨(lane h d).val % 128, e⟩ : Fin 128) = d :=
  Fin.ext (by show (128 * h.val + d.val) % 128 = d.val; omega)

theorem keys_apply (r : Fin 2048) (h : Fin 8) (d : Fin 128) :
    V₁ m c main_v2 (ix2 r (lane h d) : S2048x1024.Idx) = m ((c.tc : Thread nD τ).loc main_arg2) (ix4 (0 : Fin 1) r h d : S1x2048x8x128.Idx) := by
  unfold V₁
  after_reads_at
  rw [lane_head, lane_lane]

theorem values_apply (r : Fin 2048) (h : Fin 8) (d : Fin 128) :
    V₁ m c main_v4 (ix2 r (lane h d) : S2048x1024.Idx) = m ((c.tc : Thread nD τ).loc main_arg3) (ix4 (0 : Fin 1) r h d : S1x2048x8x128.Idx) := by
  unfold V₁
  after_reads_at
  rw [lane_head, lane_lane]

/-- Device `c`'s block of an array of 64 heads holds heads `8c …`. -/
theorem block_head (f : (⟨4, ![1, 2048, 64, 128]⟩ : Shape).Idx → EReal) (r : Fin 2048) (h : Fin 8) (d : Fin 128) :
    Layout.block ⟨4, ![1, 2048, 8, 128]⟩ ⟨4, ![1, 2048, 64, 128]⟩ 2 8 c f (by decide) (ix4 0 r h d) = f (ix4 0 r (glob c h) d) := by
  rw [Layout.block_apply]
  refine congrArg f (funext fun a => Fin.ext ?_)
  rw [Layout.Tiles.idx_val]
  fin_cases a
  · rfl
  · rfl
  · show c.val * 8 + h.val = 8 * c.val + h.val; omega
  · rfl

end Host

/-! ## The claim -/

theorem same : Cert.algebraic_KernelIdeal_ReferenceIdeal_pre_finite_scores_KernelIdeal := by
  intro m g m' g' hp hm
  have hv : Cert.KernelIdeal.Swa.Holds (Cert.KernelIdeal.Swa.V₁ m)
      (fun r n => m' (((0 : Dev Cert.ReferenceIdeal.nD).tc : Thread Cert.ReferenceIdeal.nD Cert.ReferenceIdeal.τ).loc Cert.ReferenceIdeal.main_arg0) (ix3 0 r n))
      (fun n l => m' (((0 : Dev Cert.ReferenceIdeal.nD).tc : Thread Cert.ReferenceIdeal.nD Cert.ReferenceIdeal.τ).loc Cert.ReferenceIdeal.main_arg1) (ix2 n l))
      (fun r h d => m' (((0 : Dev Cert.ReferenceIdeal.nD).tc : Thread Cert.ReferenceIdeal.nD Cert.ReferenceIdeal.τ).loc Cert.ReferenceIdeal.main_arg2) (ix4 0 r h d))
      (fun r h d => m' (((0 : Dev Cert.ReferenceIdeal.nD).tc : Thread Cert.ReferenceIdeal.nD Cert.ReferenceIdeal.τ).loc Cert.ReferenceIdeal.main_arg3) (ix4 0 r h d))
      (fun l o => m' (((0 : Dev Cert.ReferenceIdeal.nD).tc : Thread Cert.ReferenceIdeal.nD Cert.ReferenceIdeal.τ).loc Cert.ReferenceIdeal.main_arg4) (ix2 l o)) :=
    { x := fun c r n => congrFun ((Cert.KernelIdeal.Gen.V_main_arg0 m c).trans (hm c).1) (ix3 0 r n)
      wq := fun c n l => congrFun ((Cert.KernelIdeal.Gen.V_main_arg1 m c).trans (hm c).2.1) (ix2 n l)
      k := fun c r h d => (keys_apply m c r h d).trans ((congrFun (hm c).2.2.1 (ix4 0 r h d)).trans (block_head c _ r h d))
      v := fun c r h d => (values_apply m c r h d).trans ((congrFun (hm c).2.2.2.1 (ix4 0 r h d)).trans (block_head c _ r h d))
      wo := fun c l o => congrFun ((Cert.KernelIdeal.Gen.V_main_arg4 m c).trans (hm c).2.2.2.2) (ix2 l o) }
  have hr : Real3
      (fun r n => m' (((0 : Dev Cert.ReferenceIdeal.nD).tc : Thread Cert.ReferenceIdeal.nD Cert.ReferenceIdeal.τ).loc Cert.ReferenceIdeal.main_arg0) (ix3 0 r n))
      (fun n l => m' (((0 : Dev Cert.ReferenceIdeal.nD).tc : Thread Cert.ReferenceIdeal.nD Cert.ReferenceIdeal.τ).loc Cert.ReferenceIdeal.main_arg1) (ix2 n l))
      (fun r h d => m' (((0 : Dev Cert.ReferenceIdeal.nD).tc : Thread Cert.ReferenceIdeal.nD Cert.ReferenceIdeal.τ).loc Cert.ReferenceIdeal.main_arg2) (ix4 0 r h d)) :=
    { x := fun r n => by
        rw [← (hm 0).1]
        exact finite_x (hp 0).1 r n
      wq := fun n l => by
        rw [← (hm 0).2.1]
        exact finite_wq (hp 0).2.1 n l
      k := fun r h d => by
        have hb := fun (c : Dev Cert.KernelIdeal.nD) (g : Fin 8) => finite_k (hp c).2.2 r g d
        have e : h = Cert.KernelIdeal.Swa.glob ⟨h.val / 8, by show _ < 8; omega⟩ ⟨h.val % 8, Nat.mod_lt _ (by decide)⟩ :=
          Fin.ext (by show h.val = 8 * (h.val / 8) + h.val % 8; omega)
        have q := hb ⟨h.val / 8, by show _ < 8; omega⟩ ⟨h.val % 8, Nat.mod_lt _ (by decide)⟩
        rw [(hm _).2.2.1] at q
        rw [e]
        exact (block_head _ (m' (((0 : Dev Cert.ReferenceIdeal.nD).tc : Thread Cert.ReferenceIdeal.nD Cert.ReferenceIdeal.τ).loc Cert.ReferenceIdeal.main_arg2)) r _ d) ▸ q }
  have href : ∀ i, Cert.ReferenceIdeal.Value.res_main_v34 (F := Ideal) m' 0 i = _ := fun i => congrFun (Cert.ReferenceIdeal.Value.res_stages m' 0) i
  refine ⟨Cert.ReferenceIdeal.Value.res_main_v34 (F := Ideal) m' 0, ?_, ?_⟩
  · refine (θ_run Cert.KernelIdeal.defs _ _).mono (fun r h c => ⟨(h.1 c).1.trans (funext fun i => ?_), (h.1 c).2⟩) (Cert.KernelIdeal.Swa.run_main (F := Ideal) m g)
    obtain ⟨i0, r, o, rfl⟩ : ∃ (i0 : Fin 1) (r : Fin 2048) (o : Fin 1024), i = ix3 i0 r o := ⟨i 0, i 1, i 2, (ix3_eta i).symm⟩
    obtain rfl : i0 = 0 := Subsingleton.elim _ _
    exact (Cert.KernelIdeal.Swa.outC_apply hv hr c r o).trans ((href (ix3 0 r o)).trans (Cert.ReferenceIdeal.Value.reference_result hr r o)).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Swa.Frames
public import proofs.«01_k».proof.Proof.Value.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, frame_ideal_pre, frame_reference, frame_reference_pre, mask_named, same⟩

end Cert.Proof

end
